-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_scores_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x128x512 .bf16) (main_arg1 : FVec F S512x256 .bf16) (main_arg2 : FVec F S2x512x4x64 .bf16) (main_arg3 : FVec F S2x512x4x64 .bf16) (main_arg4 : FVec F S256x512 .bf16) : IVec S2x128x512 1 × IVec S512x256 1 × IVec S2x512x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x512x4x64 .bf16 := Host.absf main_arg2
  let main_cst_1 : FVec F S_ .bf16 := constant S_ .bf16 0x7F80#16
  let main_v7 : FVec F S2x512x4x64 .bf16 := broadcastInDim S2x512x4x64 ![] bcast_S_S2x512x4x64 main_cst_1
  let main_v8 : IVec S2x512x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x256x256 : Shape := ⟨3, ![2, 256, 256]⟩
abbrev S3 : Shape := ⟨1, ![3]⟩
abbrev S_ : Shape := ⟨0, ![]⟩
abbrev S256x256 : Shape := ⟨2, ![256, 256]⟩
abbrev S1x256x256 : Shape := ⟨3, ![1, 256, 256]⟩
abbrev S1 : Shape := ⟨1, ![1]⟩
abbrev S128x128 : Shape := ⟨2, ![128, 128]⟩
abbrev S128x256 : Shape := ⟨2, ![128, 256]⟩
abbrev S1x128x256 : Shape := ⟨3, ![1, 128, 256]⟩
abbrev S128x64 : Shape := ⟨2, ![128, 64]⟩
abbrev S128 : Shape := ⟨1, ![128]⟩
abbrev S128x1 : Shape := ⟨2, ![128, 1]⟩
abbrev S128x512 : Shape := ⟨2, ![128, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S256x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S256x512, .f32⟩
  | .local _ .vmem, ⟨6, _⟩ => ⟨S2x256x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_101 : BitVec 32 := 0#32
  let c1_i32_99 : BitVec 32 := 1#32
  let c1_i32_100 : BitVec 32 := 1#32
  let v260 : BitVec 32 := Scalar.muli c1_i32_99 c1_i32_100
  let v261 : BitVec 32 := Scalar.addi c0_i32_101 v260
  v261.toNat
def k0_dev2 : Nat :=
  let c0_i32_104 : BitVec 32 := 0#32
  let c2_i32 : BitVec 32 := 2#32
  let c1_i32_103 : BitVec 32 := 1#32
  let v264 : BitVec 32 := Scalar.muli c2_i32 c1_i32_103
  let v265 : BitVec 32 := Scalar.addi c0_i32_104 v264
  v265.toNat
def k0_dev3 : Nat :=
  let c0_i32_108 : BitVec 32 := 0#32
  let c3_i32_106 : BitVec 32 := 3#32
  let c1_i32_107 : BitVec 32 := 1#32
  let v268 : BitVec 32 := Scalar.muli c3_i32_106 c1_i32_107
  let v269 : BitVec 32 := Scalar.addi c0_i32_108 v268
  v269.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1 : BitVec 32 := 0#32
  let v7 : BitVec 1 := Scalar.cmpi .ne v2 c0_i32_1
  let v8 : BitVec 32 := Scalar.extui v7
  let c0_i32_2 : BitVec 32 := 0#32
  let v9 : BitVec 1 := Scalar.cmpi .ne v8 c0_i32_2
  v9

def k0_dev4 : Nat :=
  let c0_i32_87 : BitVec 32 := 0#32
  let c0_i32_85 : BitVec 32 := 0#32
  let c1_i32_86 : BitVec 32 := 1#32
  let v248 : BitVec 32 := Scalar.muli c0_i32_85 c1_i32_86
  let v249 : BitVec 32 := Scalar.addi c0_i32_87 v248
  v249.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x512x4x64, .bf16⟩
  | .hbm, ⟨3, _⟩ => ⟨S2x512x4x64, .bf16⟩
  | .hbm, ⟨4, _⟩ => ⟨S256x512, .bf16⟩
  | .hbm, ⟨5, _⟩ => ⟨S2x128x256, .f32⟩
  | .hbm, ⟨6, _⟩ => ⟨S2x128x256, .bf16⟩
  | .hbm, ⟨7, _⟩ => ⟨S2x128x4x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S128x512, .i32⟩
  | .hbm, ⟨49, _⟩ => ⟨S128x512, .i32⟩
  | .hbm, ⟨50, _⟩ => ⟨S128x512, .i1⟩
  | .hbm, ⟨51, _⟩ => ⟨S2x4x128x512, .f32⟩
  | .hbm, ⟨52, _⟩ => ⟨S2x4x128x512, .bf16⟩
  | .hbm, ⟨53, _⟩ => ⟨S2x4x128x512, .f32⟩
  | .hbm, ⟨54, _⟩ => ⟨S_, .f32⟩
  | .hbm, ⟨55, _⟩ => ⟨S2x4x128x512, .f32⟩
  | .hbm, ⟨56, _⟩ => ⟨S2x4x128x512, .f32⟩
  | .hbm, ⟨57, _⟩ => ⟨S1x1x128x512, .i1⟩
  | .hbm, ⟨58, _⟩ => ⟨S_, .f32⟩
  | .hbm, ⟨59, _⟩ => ⟨S_, .f32⟩
  | .hbm, ⟨60, _⟩ => ⟨S2x4x128x512, .i1⟩
  | .hbm, ⟨61, _⟩ => ⟨S2x4x128x512, .f32⟩
  | .hbm, ⟨62, _⟩ => ⟨S2x4x128x512, .f32⟩
  | .hbm, ⟨63, _⟩ => ⟨S_, .f32⟩
  | .hbm, ⟨64, _⟩ => ⟨S2x4x128, .f32⟩
  | .hbm, ⟨65, _⟩ => ⟨S2x4x128x1, .f32⟩
  | .hbm, ⟨66, _⟩ => ⟨S2x4x128x512, .f32⟩
  | .hbm, ⟨67, _⟩ => ⟨S2x4x128x512, .f32⟩
  | .hbm, ⟨68, _⟩ => ⟨S2x4x128x512, .f32⟩
  | .hbm, ⟨69, _⟩ => ⟨S_, .i1⟩
  | .hbm, ⟨70, _⟩ => ⟨S128, .i1⟩
  | .hbm, ⟨71, _⟩ => ⟨S1x1x128x1, .i1⟩
  | .hbm, ⟨72, _⟩ => ⟨S_, .f32⟩
  | .hbm, ⟨73, _⟩ => ⟨S2x4x128, .f32⟩
  | .hbm, ⟨74, _⟩ => ⟨S2x4x128x1, .f32⟩
  | .hbm, ⟨75, _⟩ => ⟨S_, .f32⟩
  | .hbm, ⟨76, _⟩ => ⟨S_, .f32⟩
  | .hbm, ⟨77, _⟩ => ⟨S2x4x128x1, .i1⟩
  | .hbm, ⟨78, _⟩ => ⟨S2x4x128x1, .f32⟩
  | .hbm, ⟨79, _⟩ => ⟨S2x4x128x1, .f32⟩
  | .hbm, ⟨80, _⟩ => ⟨S2x4x128x512, .f32⟩
  | .hbm, ⟨81, _⟩ => ⟨S2x4x128x512, .f32⟩
  | .hbm, ⟨82, _⟩ => ⟨S1x1x128x1, .i1⟩
  | .hbm, ⟨83, _⟩ => ⟨S_, .f32⟩
  | .hbm, ⟨84, _⟩ => ⟨S_, .f32⟩
  | .hbm, ⟨85, _⟩ => ⟨S2x4x128x512, .i1⟩
  | .hbm, ⟨86, _⟩ => ⟨S2x4x128x512, .f32⟩
  | .hbm, ⟨87, _⟩ => ⟨S2x4x128x512, .f32⟩
  | .hbm, ⟨88, _⟩ => ⟨S2x512x4x64, .f32⟩
  | .hbm, ⟨89, _⟩ => ⟨S2x4x64x128, .f32⟩
  | .hbm, ⟨90, _⟩ => ⟨S2x128x4x64, .f32⟩
  | .hbm, ⟨91, _⟩ => ⟨S2x128x256, .f32⟩
  | .hbm, ⟨92, _⟩ => ⟨S256x512, .f32⟩
  | .hbm, ⟨93, _⟩ => ⟨S2x128x512, .f32⟩
  | .hbm, ⟨94, _⟩ => ⟨S256x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Sched.lean ====
/-
# The protocol of the broadcast

Device 0 packs its keys and values into a scratch buffer and copies the buffer into the same scratch buffer of devices
1, 2 and 3. Three kinds of semaphore cell keep this in order, each used for one round.

* The barrier cell of device 0. Devices 1, 2, 3 pay one unit each, and with the unit hand over their own scratch buffer,
  whole and with any contents. Device 0 waits for three.
* The receive cell of device `t ≠ 0`. Device 0's copy pays the credit of the buffer, and hands back `t`'s scratch buffer
  with the packed keys and values in it.
* The three send cells of device 0. Each copy pays its own, and hands back the share of device 0's buffer that it read.

Device 0 keeps a fourth share of its buffer, so that it reads the keys and values while the copies are under way.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.WritesUnit
public import Idealize.ShloMosaic.Lib.ValueIdxCore
public import Idealize.ShloMosaic.Lib.Tactic

@[expose] public section

noncomputable section

namespace Cert.Bcast

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Ghost state: one copy of the rounds algebra for the staging pipeline, one for the broadcast -/

/-- The broadcast's copy; a duty carries the number of the device that pays it. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev EB : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## Buffers and semaphores -/

abbrev xM : Memref sig .tc .vmem S2x128x512 .bf16 := Memref.whole cc0_stg0_0
abbrev wqM : Memref sig .tc .vmem S512x256 .bf16 := Memref.whole cc0_stg1_0
abbrev kM : Memref sig .tc .vmem S2x128x4x64 .bf16 := Memref.whole cc0_stg2_0
abbrev vM : Memref sig .tc .vmem S2x128x4x64 .bf16 := Memref.whole cc0_stg3_0
abbrev woM : Memref sig .tc .vmem S256x512 .bf16 := Memref.whole cc0_stg4_0
abbrev outM : Memref sig .tc .vmem S256x512 .f32 := Memref.whole cc0_stg5_0
/-- The scratch buffer of packed keys and values. -/
abbrev kvM : Memref sig .tc .vmem S2x256x256 .bf16 := Memref.whole cc0_scratch0

abbrev barS : Sem sig := (SemArray.scalar (sig.barrier 0 rfl) : Sems sig S_).sem
abbrev recvS : DmaSem sig := (cc0_scratch2 : DmaSems sig S_).sem
abbrev sendA : DmaSem sig := (((cc0_scratch1 : DmaSems sig S3).slice (Rect.unit (s := S3) ![0] S1.size inb_S3_S1_0)).squeeze S_ squeezes_S1_S_).sem
abbrev sendB : DmaSem sig := (((cc0_scratch1 : DmaSems sig S3).slice (Rect.unit (s := S3) ![1] S1.size inb_S3_S1_1)).squeeze S_ squeezes_S1_S_).sem
abbrev sendC : DmaSem sig := (((cc0_scratch1 : DmaSems sig S3).slice (Rect.unit (s := S3) ![2] S1.size inb_S3_S1_2)).squeeze S_ squeezes_S1_S_).sem

/-- The send semaphore of copy `j`. -/
def sendS : Fin 3 → DmaSem sig := fun | 0 => sendA | 1 => sendB | 2 => sendC
/-- The device copy `j` goes to. -/
def dest (j : Fin 3) : Dev nD := j.succ

/-- The five semaphores of a device: barrier, receive, three sends. -/
def semOf : Fin 5 → SemLoc sig := fun | 0 => .reg barS | 1 => .dma recvS | 2 => .dma sendA | 3 => .dma sendB | 4 => .dma sendC
/-- The four of them that belong to the launch. -/
def ownOf : Fin 4 → SemLoc sig := fun | 0 => .dma recvS | 1 => .dma sendA | 2 => .dma sendB | 3 => .dma sendC

abbrev cellAt (ck : Dev nD × Fin 5) : GSem nD τ sig := ((ck.1 : Thread nD τ), semOf ck.2)
abbrev barC : GSem nD τ sig := (((0 : Dev nD) : Thread nD τ), .reg barS)
abbrev recvC (c : Dev nD) : GSem nD τ sig := ((c : Thread nD τ), .dma recvS)
abbrev sendC' (j : Fin 3) : GSem nD τ sig := (((0 : Dev nD) : Thread nD τ), .dma (sendS j))

/-- The credit of one copy of the scratch buffer. -/
abbrev N : ℕ := (kvM : Memref sig .tc .vmem S2x256x256 .bf16).view.dmaCredit
theorem N_pos : 0 < N := View.dmaCredit_pos _ (by decide)

theorem semOf_injective : Function.Injective semOf := by decide
theorem recv_ne_bar : (SemLoc.dma recvS : SemLoc sig) ≠ .reg barS := fun h => by cases h
theorem send_ne_bar (j : Fin 3) : (SemLoc.dma (sendS j) : SemLoc sig) ≠ .reg barS := fun h => by cases h
theorem send_ne_recv (j : Fin 3) : (SemLoc.dma (sendS j) : SemLoc sig) ≠ .dma recvS := by revert j; decide
theorem sendS_inj {i j : Fin 3} : (SemLoc.dma (sendS i) : SemLoc sig) = .dma (sendS j) → i = j := by revert i j; decide

/-! ## Contents -/

/-- What the staged inputs hold on device `c`. -/
def xAt (c : Dev nD) : (cc0_stg0_0 : Ref sig .tc).ty.Contents (Elt F) := (win0_0.blk (0 : Fin 1)).view.read (Elt F) ((s₀ m ρ).mem ((c : Thread nD τ).loc main_arg0))
def wqAt (c : Dev nD) : (cc0_stg1_0 : Ref sig .tc).ty.Contents (Elt F) := (win0_1.blk (0 : Fin 1)).view.read (Elt F) ((s₀ m ρ).mem ((c : Thread nD τ).loc main_arg1))
def kAt (c : Dev nD) : (cc0_stg2_0 : Ref sig .tc).ty.Contents (Elt F) := (win0_2.blk (0 : Fin 1)).view.read (Elt F) ((s₀ m ρ).mem ((c : Thread nD τ).loc main_arg2))
def vAt (c : Dev nD) : (cc0_stg3_0 : Ref sig .tc).ty.Contents (Elt F) := (win0_3.blk (0 : Fin 1)).view.read (Elt F) ((s₀ m ρ).mem ((c : Thread nD τ).loc main_arg3))
def woAt (c : Dev nD) : (cc0_stg4_0 : Ref sig .tc).ty.Contents (Elt F) := (win0_4.blk (0 : Fin 1)).view.read (Elt F) ((s₀ m ρ).mem ((c : Thread nD τ).loc main_arg4))

/-- The packed buffer: the keys in plane 0, the values in plane 1. -/
def packed (k : Vec F S2x128x4x64 .bf16) (v : Vec F S2x128x4x64 .bf16) : (cc0_scratch0 : Ref sig .tc).ty.Contents (Elt F) :=
  fun i : S2x256x256.Idx => if (i 0).val = 0 then k0_pay2 k (ix3 (0 : Fin 1) (i 1) (i 2)) else k0_pay3 v (ix3 (0 : Fin 1) (i 1) (i 2))

/-- What every device's scratch buffer ends up holding: device 0's keys and values. -/
def KV : (cc0_scratch0 : Ref sig .tc).ty.Contents (Elt F) := packed (kAt m ρ 0) (vAt m ρ 0)

/-- The result buffer: 128 rows of the first batch element, then 128 rows of the second. -/
def stacked (lo hi : Vec F S128x512 .f32) : (cc0_stg5_0 : Ref sig .tc).ty.Contents (Elt F) :=
  fun i : S256x512.Idx => if h : (i 0).val < 128 then lo (ix2 (⟨(i 0).val, h⟩ : Fin 128) (i 1))
    else hi (ix2 (⟨(i 0).val - 128, by have := idx2_lt0 i; omega⟩ : Fin 128) (i 1))

/-- Storing the two planes leaves the packed buffer, whatever was there before. -/
theorem write_planes (k v : Vec F S2x128x4x64 .bf16) (f : (cc0_scratch0 : Ref sig .tc).ty.Contents (Elt F)) :
    ((kvM : Memref sig .tc .vmem S2x256x256 .bf16).access (Rect.unit (s := S2x256x256) ![1, 0, 0] S1x256x256.size inb_S2x256x256_S1x256x256_1_0_0) : View sig .tc _ _ _).write (Elt F)
      (((kvM : Memref sig .tc .vmem S2x256x256 .bf16).access (Rect.unit (s := S2x256x256) ![0, 0, 0] S1x256x256.size inb_S2x256x256_S1x256x256_0_0_0) : View sig .tc _ _ _).write (Elt F)
        f (k0_pay2 k) Finset.univ) (k0_pay3 v) Finset.univ = packed k v := by
  funext y
  have e : ∀ g : (cc0_scratch0 : Ref sig .tc).ty.Contents (Elt F), (View.whole cc0_scratch0).read (Elt F) g = g := fun g => View.read_whole _ g
  let r0 : Rect S2x256x256 := Rect.unit (s := S2x256x256) ![0, 0, 0] S1x256x256.size inb_S2x256x256_S1x256x256_0_0_0
  let r1 : Rect S2x256x256 := Rect.unit (s := S2x256x256) ![1, 0, 0] S1x256x256.size inb_S2x256x256_S1x256x256_1_0_0
  show (View.whole cc0_scratch0).writes (Elt F) f [⟨r1, k0_pay3 v⟩, ⟨r0, k0_pay2 k⟩] y = packed k v y
  rw [← e ((View.whole cc0_scratch0).writes (Elt F) f [⟨r1, k0_pay3 v⟩, ⟨r0, k0_pay2 k⟩])]
  have y0 : ((y : S2x256x256.Idx) 0).val < 2 := (y 0).isLt
  unfold packed
  by_cases h : ((y : S2x256x256.Idx) 0).val = 0
  · rw [if_pos h]
    refine (View.read_writes_cons_unit_of_not_mem (s := S2x256x256) (View.whole cc0_scratch0) f _ (k0_pay3 v) _ y rfl (0 : Fin 3) (Or.inl ?_)).trans ?_
    · show ((y : S2x256x256.Idx) 0).val < 1; omega
    · exact View.read_writes_cons_unit_of_mem (s := S2x256x256) (View.whole cc0_scratch0) f _ (k0_pay2 k) _ y (ix3 (0 : Fin 1) (y 1) (y 2)) rfl
        (fun a => by fin_cases a <;> first | (show ((y : S2x256x256.Idx) 0).val = 0 + 0; omega) | exact (Nat.zero_add _).symm)
  · rw [if_neg h]
    exact View.read_writes_cons_unit_of_mem (s := S2x256x256) (View.whole cc0_scratch0) f _ (k0_pay3 v) _ y (ix3 (0 : Fin 1) (y 1) (y 2)) rfl
      (fun a => by fin_cases a <;> first | (show ((y : S2x256x256.Idx) 0).val = 1 + 0; omega) | exact (Nat.zero_add _).symm)

/-- Storing the two halves of the result leaves them stacked, whatever was there before. -/
theorem write_halves (lo hi : Vec F S128x512 .f32) (f : (cc0_stg5_0 : Ref sig .tc).ty.Contents (Elt F)) :
    ((outM : Memref sig .tc .vmem S256x512 .f32).access (Rect.unit (s := S256x512) ![128, 0] S128x512.size inb_S256x512_S128x512_128_0) : View sig .tc _ _ _).write (Elt F)
      (((outM : Memref sig .tc .vmem S256x512 .f32).access (Rect.unit (s := S256x512) ![0, 0] S128x512.size inb_S256x512_S128x512_0_0) : View sig .tc _ _ _).write (Elt F)
        f lo Finset.univ) hi Finset.univ = stacked lo hi := by
  funext y
  have e : ∀ g : (cc0_stg5_0 : Ref sig .tc).ty.Contents (Elt F), (View.whole cc0_stg5_0).read (Elt F) g = g := fun g => View.read_whole _ g
  let r0 : Rect S256x512 := Rect.unit (s := S256x512) ![0, 0] S128x512.size inb_S256x512_S128x512_0_0
  let r1 : Rect S256x512 := Rect.unit (s := S256x512) ![128, 0] S128x512.size inb_S256x512_S128x512_128_0
  show (View.whole cc0_stg5_0).writes (Elt F) f [⟨r1, hi⟩, ⟨r0, lo⟩] y = stacked lo hi y
  rw [← e ((View.whole cc0_stg5_0).writes (Elt F) f [⟨r1, hi⟩, ⟨r0, lo⟩])]
  unfold stacked
  by_cases h : ((y : S256x512.Idx) 0).val < 128
  · rw [dif_pos h]
    refine (View.read_writes_cons_unit_of_not_mem (s := S256x512) (View.whole cc0_stg5_0) f _ hi _ y rfl (0 : Fin 2) (Or.inl h)).trans ?_
    exact View.read_writes_cons_unit_of_mem (s := S256x512) (View.whole cc0_stg5_0) f _ lo _ y (ix2 (⟨(y 0).val, h⟩ : Fin 128) (y 1)) rfl
        (fun a => by fin_cases a <;> exact (Nat.zero_add _).symm)
  · rw [dif_neg h]
    exact View.read_writes_cons_unit_of_mem (s := S256x512) (View.whole cc0_stg5_0) f _ hi _ y
      (ix2 (⟨(y 0).val - 128, by have := idx2_lt0 y; omega⟩ : Fin 128) (y 1)) rfl
      (fun a => by
        fin_cases a
        · show ((y : S256x512.Idx) 0).val = 128 + (((y : S256x512.Idx) 0).val - 128); omega
        · exact (Nat.zero_add _).symm)

/-- A copy of the whole buffer leaves the source's contents. -/
theorem copied (f g : (cc0_scratch0 : Ref sig .tc).ty.Contents (Elt F)) :
    (kvM : Memref sig .tc .vmem S2x256x256 .bf16).view.write (Elt F) f ((kvM : Memref sig .tc .vmem S2x256x256 .bf16).view.read (Elt F) g) Finset.univ = g := by
  show (View.whole cc0_scratch0).write (Elt F) f ((View.whole cc0_scratch0).read (Elt F) g) Finset.univ = g
  rw [View.read_whole]
  exact View.write_whole_univ _ _ _

/-- Device `c`'s scratch buffer at share `q` with contents `f`. -/
def scr (c : Dev nD) (q : PosShare TreeShare) (f : (cc0_scratch0 : Ref sig .tc).ty.Contents (Elt F)) : sProp 𝕄 :=
  (kvM : Memref sig .tc .vmem S2x256x256 .bf16).view.loc (c : Thread nD τ) ↦[(kvM : Memref sig .tc .vmem S2x256x256 .bf16).view.set]{q} f

instance scr_storable (c : Dev nD) (q) (f) : BI.Storable (upEmb : UEmb _ 𝕄) (scr (F := F) c q f) := by unfold scr; infer_instance

theorem kv_set : (kvM : Memref sig .tc .vmem S2x256x256 .bf16).view.set = Finset.univ := View.set_whole _
theorem scr_eq (c : Dev nD) (q) (f : Buf (Elt F) ((c : Thread nD τ).loc cc0_scratch0)) :
    scr c q f = (((c : Thread nD τ).loc cc0_scratch0) ↦{q} f : sProp 𝕄) := by unfold scr; rw [kv_set]

/-- The share of device 0's buffer that stays with device 0, and those lent to the three copies. -/
abbrev kept : PosShare TreeShare := fullShare.left
def lent : Fin 3 → PosShare TreeShare := fun | 0 => fullShare.right.left | 1 => fullShare.right.right.left | 2 => fullShare.right.right.right

/-- The whole buffer is the kept share and the three lent ones. -/
theorem scr_split (f : (cc0_scratch0 : Ref sig .tc).ty.Contents (Elt F)) :
    scr (0 : Dev nD) fullShare f = (iprop(scr 0 kept f ∗ scr 0 (lent 0) f ∗ scr 0 (lent 1) f ∗ scr 0 (lent 2) f) : sProp 𝕄) := by
  have h : ∀ q : PosShare TreeShare, scr (0 : Dev nD) q f = (iprop(scr 0 q.left f ∗ scr 0 q.right f) : sProp 𝕄) := fun q => by
    unfold scr
    exact BI.Entails.antisymm (pointsTo_share (PosShare.mem_left_op_right q)).1 (pointsTo_share (PosShare.mem_left_op_right q)).2
  rw [h fullShare, h fullShare.right, h fullShare.right.right]
  rfl

/-! ## The schedule -/

/-- What device `d` hands over at the barrier: its scratch buffer, and that its receive cell is in round 0. -/
def barPay (d : Dev nD) : sProp 𝕄 := iprop((∃ f, scr d fullShare f) ∗ reached EB (recvC d) 0)
/-- What a landed copy hands device `c`: its scratch buffer, filled. -/
def recvPay (c : Dev nD) : sProp 𝕄 := scr c fullShare (KV m ρ)
/-- What a finished copy gives back: the lent share. -/
def sendPay (j : Fin 3) : sProp 𝕄 := scr 0 (lent j) (KV m ρ)

/-- A cell that one copy pays: the receive cell of a device other than 0, or a send cell of device 0. -/
abbrev IsCopy (g : GSem nD τ sig) : Prop :=
  g.1.2 = .tc ∧ ((g.1.1 ≠ 0 ∧ g.2 = .dma recvS) ∨ (g.1.1 = 0 ∧ (g.2 = .dma (sendS 0) ∨ g.2 = .dma (sendS 1) ∨ g.2 = .dma (sendS 2))))
abbrev IsBar (g : GSem nD τ sig) : Prop := g.1.2 = .tc ∧ g.1.1 = 0 ∧ g.2 = .reg barS

def sched : Rounds.Schedule (GSem nD τ sig) (Dev nD) 𝕄 where
  duties g r := if r = 0 ∧ IsBar g then {1, 2, 3} else if r = 0 ∧ IsCopy g then {0} else ∅
  unitless _ := False
  amount g _ _ := if g.2 = .reg barS then 1 else N
  payload g _ d :=
    if g.2 = .reg barS then barPay d
    else if g.2 = .dma recvS then recvPay m ρ g.1.1
    else if g.2 = .dma (sendS 0) then sendPay m ρ 0
    else if g.2 = .dma (sendS 1) then sendPay m ρ 1
    else sendPay m ρ 2
  amount_pos g _ _ _ := by
    by_cases h : g.2 = .reg barS
    · rw [if_pos h]; exact Nat.one_pos
    · rw [if_neg h]; exact N_pos

instance sched_storable (g : GSem nD τ sig) (r : ℕ) (d : Dev nD) :
    BI.Storable (upEmb : UEmb _ 𝕄) ((sched (F := F) m ρ).payload g r d) := by
  show BI.Storable upEmb (if g.2 = .reg barS then barPay d
    else if g.2 = .dma recvS then recvPay m ρ g.1.1
    else if g.2 = .dma (sendS 0) then sendPay m ρ 0
    else if g.2 = .dma (sendS 1) then sendPay m ρ 1
    else sendPay m ρ 2)
  unfold barPay recvPay sendPay
  (repeat' split) <;> infer_instance

theorem duties_bar : (sched (F := F) m ρ).duties barC 0 = {1, 2, 3} := by dsimp only [sched]; exact if_pos ⟨rfl, rfl, rfl, rfl⟩
theorem duties_recv {c : Dev nD} (hc : c ≠ 0) : (sched (F := F) m ρ).duties (recvC c) 0 = {0} := by
  dsimp only [sched]; rw [if_neg (fun h => recv_ne_bar h.2.2.2)]; exact if_pos ⟨rfl, rfl, .inl ⟨hc, rfl⟩⟩
theorem duties_send (j : Fin 3) : (sched (F := F) m ρ).duties (sendC' j) 0 = {0} := by
  dsimp only [sched]; rw [if_neg (fun h => send_ne_bar j h.2.2.2)]
  exact if_pos ⟨rfl, rfl, .inr ⟨rfl, by fin_cases j; exacts [.inl rfl, .inr (.inl rfl), .inr (.inr rfl)]⟩⟩
theorem duties_later (g : GSem nD τ sig) : ∀ r, 1 ≤ r → (sched (F := F) m ρ).duties g r = ∅ :=
  fun r hr => by dsimp only [sched]; rw [if_neg fun h => by omega, if_neg fun h => by omega]
/-- A cell that is neither the barrier of device 0 nor a copy's has no duty at all. -/
theorem duties_idle (g : GSem nD τ sig) (h : ¬IsBar g) (h' : ¬IsCopy g) : ∀ r, 0 ≤ r → (sched (F := F) m ρ).duties g r = ∅ :=
  fun r _ => by dsimp only [sched]; rw [if_neg fun e => h e.2, if_neg fun e => h' e.2]

theorem amount_bar (d : Dev nD) : (sched (F := F) m ρ).amount barC 0 d = 1 := by dsimp only [sched]; exact if_pos rfl
theorem amount_recv (c d : Dev nD) : (sched (F := F) m ρ).amount (recvC c) 0 d = N := by dsimp only [sched]; exact if_neg recv_ne_bar
theorem amount_send (j : Fin 3) (d : Dev nD) : (sched (F := F) m ρ).amount (sendC' j) 0 d = N := by dsimp only [sched]; exact if_neg (send_ne_bar j)

theorem expect_bar : (sched (F := F) m ρ).expect barC 0 = 3 := by
  unfold Schedule.expect Schedule.amountOf
  rw [duties_bar, Finset.sum_congr rfl fun d _ => amount_bar m ρ d]; decide
theorem expect_recv {c : Dev nD} (hc : c ≠ 0) : (sched (F := F) m ρ).expect (recvC c) 0 = N := by
  unfold Schedule.expect Schedule.amountOf; rw [duties_recv m ρ hc, Finset.sum_singleton, amount_recv]
theorem expect_send (j : Fin 3) : (sched (F := F) m ρ).expect (sendC' j) 0 = N := by
  unfold Schedule.expect Schedule.amountOf; rw [duties_send, Finset.sum_singleton, amount_send]

theorem payload_bar (d : Dev nD) : (sched (F := F) m ρ).payload barC 0 d = barPay d := by dsimp only [sched]; rw [if_pos rfl]
theorem payload_recv (c d : Dev nD) : (sched (F := F) m ρ).payload (recvC c) 0 d = recvPay m ρ c := by
  dsimp only [sched]; rw [if_neg recv_ne_bar, if_pos rfl]
theorem payload_send (j : Fin 3) (d : Dev nD) : (sched (F := F) m ρ).payload (sendC' j) 0 d = sendPay m ρ j := by
  dsimp only [sched]; rw [if_neg (send_ne_bar j), if_neg (send_ne_recv j)]
  fin_cases j
  · exact if_pos rfl
  · exact (if_neg (by decide)).trans (if_pos rfl)
  · exact (if_neg (by decide)).trans (if_neg (by decide))

theorem rest_bar : bigSep ((sched (F := F) m ρ).duties barC 0 \ ∅) (fun d => (sched (F := F) m ρ).payload barC 0 d)
    = iprop(barPay (1 : Dev nD) ∗ barPay (2 : Dev nD) ∗ barPay (3 : Dev nD)) := by
  rw [Finset.sdiff_empty, duties_bar, bigSep_eq_bigSepL_of_eq [(1 : Dev nD), 2, 3] (by decide) (by decide), bigSepL_cons_cons, bigSepL_cons_cons, bigSepL_singleton,
    payload_bar, payload_bar, payload_bar]
  rfl
theorem rest_recv {c : Dev nD} (hc : c ≠ 0) :
    bigSep ((sched (F := F) m ρ).duties (recvC c) 0 \ ∅) (fun d => (sched (F := F) m ρ).payload (recvC c) 0 d) = recvPay m ρ c := by
  rw [Finset.sdiff_empty, duties_recv m ρ hc, bigSep_singleton, payload_recv]
theorem rest_send (j : Fin 3) :
    bigSep ((sched (F := F) m ρ).duties (sendC' j) 0 \ ∅) (fun d => (sched (F := F) m ρ).payload (sendC' j) 0 d) = sendPay m ρ j := by
  rw [Finset.sdiff_empty, duties_send, bigSep_singleton, payload_send]

/-! ## What a device owes, and the order of the waits -/

/-- What device 0 owes: the three landings, the first copy's last in the sum, so that it is paid off first. -/
def O₃ : CellTallies nD τ sig Unit := tallyAt (recvC 3) () N
def O₂ : CellTallies nD τ sig Unit := O₃ + tallyAt (recvC 2) () N
def O₁ : CellTallies nD τ sig Unit := O₂ + tallyAt (recvC 1) () N
/-- Device 0 owes the landings; every other device owes its unit at device 0's barrier. -/
def owed (c : Dev nD) : CellTallies nD τ sig Unit := if c = 0 then O₁ else tallyAt barC () 1

def L (g : GSem nD τ sig) : Finset Unit := if g.1.2 = .tc then {()} else ∅
/-- The barrier at 1, receives at 2, everything else at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (u : Unit) : lv (recvC c) u = 2 := by dsimp only [lv]; rw [if_neg recv_ne_bar, if_pos rfl]
theorem lv_bar (c : Dev nD) (u : Unit) : lv ((c : Thread nD τ), .reg barS) u = 1 := by dsimp only [lv]; rw [if_pos rfl]

theorem tally_pos {g g' : GSem nD τ sig} {u : Unit} {n : ℕ} (h : 0 < tallyAt g' () n g u) : g = g' := by
  by_contra hn
  rw [tallyAt_apply, if_neg (fun e => hn e.1)] at h
  exact Nat.lt_irrefl 0 h

theorem O₁_pos {g : GSem nD τ sig} {u : Unit} (h : 0 < O₁ g u) : ∃ c : Dev nD, g = recvC c := by
  unfold O₁ O₂ O₃ at h
  rw [Pi.add_apply, Finsupp.add_apply, Pi.add_apply, Finsupp.add_apply] at h
  rcases Nat.eq_zero_or_pos (tallyAt (recvC 1) () N g u) with h1 | h1
  · rcases Nat.eq_zero_or_pos (tallyAt (recvC 2) () N g u) with h2 | h2
    · exact ⟨3, tally_pos (by omega : 0 < tallyAt (recvC 3) () N g u)⟩
    · exact ⟨2, tally_pos h2⟩
  · exact ⟨1, tally_pos h1⟩

theorem owed_pos {c : Dev nD} {g : GSem nD τ sig} {u : Unit} (h : 0 < owed c g u) : (∃ c : Dev nD, g = recvC c) ∨ g = barC := by
  unfold owed at h
  by_cases hc : c = 0
  · rw [if_pos hc] at h; exact .inl (O₁_pos h)
  · rw [if_neg hc] at h; exact .inr (tally_pos h)

/-- A wait on a staging semaphore comes before everything owed. -/
theorem mayWait_stage (c : Dev nD) (q : DmaSem sig) (hq : SemLoc.dma q ≠ .dma recvS) (O : CellTallies nD τ sig Unit) (hO : O = owed c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed_pos hg with ⟨_, rfl⟩ | rfl <;> exact Finset.mem_singleton_self _)
      (fun p hp => by rw [Finset.mem_singleton.mp hp]; dsimp only [lv]; rw [if_neg (fun h => by cases h), if_neg hq])
      (fun g u hg => by
        rcases owed_pos hg with ⟨_, rfl⟩ | rfl
        · rw [lv_recv]; decide
        · rw [lv_bar]; decide)
  · rw [MayWait_zero]; iintro -; iempintro

/-- At the barrier wait device 0 owes landings only, which come after it. -/
theorem mayWait_bar : (levAts L lv : sProp 𝕄) ⊢ MayWait ((0 : Dev nD) : Thread nD τ) (.reg barS) () O₁ :=
  MayOwe.of_cut (L := L) (lev := lv) 1 (fun p hp => by rw [Finset.mem_singleton.mp hp, L_tc]; exact Finset.mem_singleton_self _)
    (fun g u hg => by obtain ⟨_, rfl⟩ := O₁_pos hg; exact Finset.mem_singleton_self _)
    (fun p hp => by rw [Finset.mem_singleton.mp hp, lv_bar])
    (fun g u hg => by obtain ⟨_, rfl⟩ := O₁_pos hg; rw [lv_recv]; decide)

end Cert.Bcast

end
-- ==== Proof.Body.lean ====
/-
# The body of the kernel, on device 0 and on the others
-/
module

public import proofs.«01_k».proof.Proof.Sched
public import proofs.«01_k».proof.Proof.Gen.KernelIdeal.Points

@[expose] public section

noncomputable section

namespace Cert.Bcast

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the body computes -/

/-- The 128 rows of plane `p` from row `r` on, as the body reads them. -/
def keysLo (f : (cc0_scratch0 : Ref sig .tc).ty.Contents (Elt F)) : Vec F S1x128x256 .bf16 :=
  (kvM : Memref sig .tc .vmem S2x256x256 .bf16).view.readAt (Elt F) (Rect.unit (s := S2x256x256) ![0, 0, 0] S1x128x256.size inb_S2x256x256_S1x128x256_0_0_0).toLoadRect f
def valsLo (f : (cc0_scratch0 : Ref sig .tc).ty.Contents (Elt F)) : Vec F S1x128x256 .bf16 :=
  (kvM : Memref sig .tc .vmem S2x256x256 .bf16).view.readAt (Elt F) (Rect.unit (s := S2x256x256) ![1, 0, 0] S1x128x256.size inb_S2x256x256_S1x128x256_1_0_0).toLoadRect f
def keysHi (f : (cc0_scratch0 : Ref sig .tc).ty.Contents (Elt F)) : Vec F S1x128x256 .bf16 :=
  (kvM : Memref sig .tc .vmem S2x256x256 .bf16).view.readAt (Elt F) (Rect.unit (s := S2x256x256) ![0, 128, 0] S1x128x256.size inb_S2x256x256_S1x128x256_0_128_0).toLoadRect f
def valsHi (f : (cc0_scratch0 : Ref sig .tc).ty.Contents (Elt F)) : Vec F S1x128x256 .bf16 :=
  (kvM : Memref sig .tc .vmem S2x256x256 .bf16).view.readAt (Elt F) (Rect.unit (s := S2x256x256) ![1, 128, 0] S1x128x256.size inb_S2x256x256_S1x128x256_1_128_0).toLoadRect f

/-- The block-causal mask that the body adds to the scores. -/
def maskV : FVec F S128x128 .f32 := k0_pay7 (F := F) k0_pay4 (iota .tc S128x128 32 [1] iota_S128x128_d1_w32) 64#32 k0_pay5 k0_pay6 0#32

/-- The result's first 128 rows, from the inputs, the keys and the values of batch element 0. -/
def loOut (x : Vec F S2x128x512 .bf16) (wq : Vec F S512x256 .bf16) (wo : Vec F S256x512 .bf16) (k v : Vec F S1x128x256 .bf16) : Vec F S128x512 .f32 :=
  k0_pay17 maskV (k0_pay8 wo) (k0_pay10 wq x) (k0_pay11 k) (k0_pay12 v) (k0_pay13 maskV (k0_pay10 wq x) (k0_pay11 k) v)
    (k0_pay14 maskV (k0_pay10 wq x) (k0_pay11 k) v) (k0_pay15 v) (k0_pay16 maskV (k0_pay10 wq x) (k0_pay11 k))

/-- Its last 128 rows, from the inputs, the keys and the values of batch element 1. -/
def hiOut (x : Vec F S2x128x512 .bf16) (wq : Vec F S512x256 .bf16) (wo : Vec F S256x512 .bf16) (k v : Vec F S1x128x256 .bf16) : Vec F S128x512 .f32 :=
  k0_pay1 maskV (k0_pay8 wo) (k0_pay18 (k0_pay9 wq x)) (k0_pay19 k) (k0_pay20 v) (k0_pay23 maskV (k0_pay20 v) (k0_pay21 (k0_pay9 wq x)) (k0_pay22 k))
    (k0_pay24 maskV (k0_pay18 (k0_pay9 wq x)) (k0_pay19 k) (k0_pay20 v)) (k0_pay25 (k0_pay20 v)) (k0_pay26 maskV (k0_pay18 (k0_pay9 wq x)) (k0_pay19 k))

/-- The result of device `c`. -/
def outAt (c : Dev nD) : (cc0_stg5_0 : Ref sig .tc).ty.Contents (Elt F) :=
  stacked (loOut (xAt m ρ c) (wqAt m ρ c) (woAt m ρ c) (keysLo (KV m ρ)) (valsLo (KV m ρ)))
    (hiOut (xAt m ρ c) (wqAt m ρ c) (woAt m ρ c) (keysHi (KV m ρ)) (valsHi (KV m ρ)))

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

theorem read_x (f : (cc0_stg0_0 : Ref sig .tc).ty.Contents (Elt F)) :
    (xM : Memref sig .tc .vmem S2x128x512 .bf16).view.readAt (Elt F) (Rect.unit (s := S2x128x512) ![0, 0, 0] S2x128x512.size inb_S2x128x512_S2x128x512_0_0_0).toLoadRect f = f :=
  Memref.readAt_unit_zero (Elt F) cc0_stg0_0 z3 _ f
theorem read_wq (f : (cc0_stg1_0 : Ref sig .tc).ty.Contents (Elt F)) :
    (wqM : Memref sig .tc .vmem S512x256 .bf16).view.readAt (Elt F) (Rect.unit (s := S512x256) ![0, 0] S512x256.size inb_S512x256_S512x256_0_0).toLoadRect f = f :=
  Memref.readAt_unit_zero (Elt F) cc0_stg1_0 z2 _ f
theorem read_k (f : (cc0_stg2_0 : Ref sig .tc).ty.Contents (Elt F)) :
    (kM : Memref sig .tc .vmem S2x128x4x64 .bf16).view.readAt (Elt F) (Rect.unit (s := S2x128x4x64) ![0, 0, 0, 0] S2x128x4x64.size inb_S2x128x4x64_S2x128x4x64_0_0_0_0).toLoadRect f = f :=
  Memref.readAt_unit_zero (Elt F) cc0_stg2_0 z4 _ f
theorem read_v (f : (cc0_stg3_0 : Ref sig .tc).ty.Contents (Elt F)) :
    (vM : Memref sig .tc .vmem S2x128x4x64 .bf16).view.readAt (Elt F) (Rect.unit (s := S2x128x4x64) ![0, 0, 0, 0] S2x128x4x64.size inb_S2x128x4x64_S2x128x4x64_0_0_0_0).toLoadRect f = f :=
  Memref.readAt_unit_zero (Elt F) cc0_stg3_0 z4 _ f
theorem read_wo (f : (cc0_stg4_0 : Ref sig .tc).ty.Contents (Elt F)) :
    (woM : Memref sig .tc .vmem S256x512 .bf16).view.readAt (Elt F) (Rect.unit (s := S256x512) ![0, 0] S256x512.size inb_S256x512_S256x512_0_0).toLoadRect f = f :=
  Memref.readAt_unit_zero (Elt F) cc0_stg4_0 z2 _ f

/-! ## The branches taken -/

theorem mem_others {c : Dev nD} : c ≠ 0 → c ∈ ({1, 2, 3} : Finset (Dev nD)) := by revert c; decide

theorem cond1_zero : k0_cond1 (0 : Dev nD) = 1#1 := by decide
theorem cond2_zero : ¬ k0_cond2 (0 : Dev nD) = 1#1 := by decide
theorem cond1_ne {c : Dev nD} : c ≠ 0 → ¬ k0_cond1 c = 1#1 := by revert c; decide
theorem cond2_ne {c : Dev nD} : c ≠ 0 → k0_cond2 c = 1#1 := by revert c; decide

/-! Whether a device's number differs from 0, and whether it is 0, as the body computes them: -/
theorem isOther_zero : ¬ Scalar.cmpi .ne (Scalar.extui (Scalar.cmpi .ne (Scalar.remsi (Scalar.divsi (Dev.word (0 : Dev nD)) 1#32) 4#32) 0#32)) 0#32 = 1#1 := by decide
theorem isZero_zero : Scalar.cmpi .ne (Scalar.extui (Scalar.cmpi .eq (Scalar.remsi (Scalar.divsi (Dev.word (0 : Dev nD)) 1#32) 4#32) 0#32)) 0#32 = 1#1 := by decide
theorem isOther_ne {c : Dev nD} : c ≠ 0 → Scalar.cmpi .ne (Scalar.extui (Scalar.cmpi .ne (Scalar.remsi (Scalar.divsi (Dev.word (c : Dev nD)) 1#32) 4#32) 0#32)) 0#32 = 1#1 := by revert c; decide
theorem isZero_ne {c : Dev nD} : c ≠ 0 → ¬ Scalar.cmpi .ne (Scalar.extui (Scalar.cmpi .eq (Scalar.remsi (Scalar.divsi (Dev.word (c : Dev nD)) 1#32) 4#32) 0#32)) 0#32 = 1#1 := by revert c; decide

theorem dev1_eq (h) : (⟨k0_dev1, k0_dev1_lt (0 : Dev nD) h⟩ : Dev nD) = dest 0 := Fin.ext k0_dev1_eq
theorem dev2_eq (h) : (⟨k0_dev2, k0_dev2_lt (0 : Dev nD) h⟩ : Dev nD) = dest 1 := Fin.ext k0_dev2_eq
theorem dev3_eq (h) : (⟨k0_dev3, k0_dev3_lt (0 : Dev nD) h⟩ : Dev nD) = dest 2 := Fin.ext k0_dev3_eq
theorem dev4_eq (c : Dev nD) (h) : (⟨k0_dev4, k0_dev4_lt c h⟩ : Dev nD) = 0 := Fin.ext k0_dev4_eq

/-! ## The data of the staging pipeline -/

/-- The invariants of all cells under the names `K`, and that every cell is in round 0. -/
def records (K : Dev nD × Fin 5 → ℕ) : sProp 𝕄 :=
  iprop((bigSep Finset.univ fun ck : Dev nD × Fin 5 => cellInv EB (sched m ρ) (K ck) (cellAt ck))
    ∗ bigSep Finset.univ fun ck : Dev nD × Fin 5 => reached EB (cellAt ck) 0)

instance records_persistent (K : Dev nD × Fin 5 → ℕ) : BI.Persistent (records m ρ K) := by unfold records; infer_instance

theorem all_at {Φ : Dev nD × Fin 5 → sProp 𝕄} (ck : Dev nD × Fin 5) : bigSep Finset.univ Φ ⊢ Φ ck := bigSep_elim (Finset.mem_univ ck)
theorem records_inv (K : Dev nD × Fin 5 → ℕ) (ck : Dev nD × Fin 5) : records m ρ K ⊢ cellInv EB (sched m ρ) (K ck) (cellAt ck) := by
  unfold records
  iintro ⟨H, -⟩
  iapply (all_at (F := F) (Φ := fun ck => cellInv EB (sched m ρ) (K ck) (cellAt ck)) ck); iexact H
theorem records_reached (K : Dev nD × Fin 5 → ℕ) (ck : Dev nD × Fin 5) : records m ρ K ⊢ reached EB (cellAt ck) 0 := by
  unfold records
  iintro ⟨-, H⟩
  iapply (all_at (F := F) (Φ := fun ck => reached EB (cellAt ck) 0) ck); iexact H

/-- Where device `c` stands at its five cells. -/
def places (c : Dev nD) : sProp 𝕄 :=
  iprop(atPos EB (cellAt (c, 0)) 0 ∅ 0 ∗ atPos EB (cellAt (c, 1)) 0 ∅ 0 ∗ atPos EB (cellAt (c, 2)) 0 ∅ 0 ∗ atPos EB (cellAt (c, 3)) 0 ∅ 0 ∗ atPos EB (cellAt (c, 4)) 0 ∅ 0)

/-- The duties device 0 pays: the three landings and its own three sends. -/
def toksZero : sProp 𝕄 :=
  iprop((dutyTok EB (recvC 1) 0 0 ∗ dutyTok EB (recvC 2) 0 0 ∗ dutyTok EB (recvC 3) 0 0)
    ∗ (dutyTok EB (sendC' 0) 0 0 ∗ dutyTok EB (sendC' 1) 0 0 ∗ dutyTok EB (sendC' 2) 0 0))
/-- The duties device `c` pays: for a device other than 0, its unit at the barrier. -/
def payToks (c : Dev nD) : sProp 𝕄 := if c = 0 then toksZero else dutyTok EB barC 0 c

/-- The credit device `c` starts with: for its wait at the barrier, or for its wait on the landing. -/
def credit (c : Dev nD) : sProp 𝕄 := if c = 0 then cred (tallyAt barC () 3) else cred (tallyAt (recvC c) () N)

def ghost (c : Dev nD) : sProp 𝕄 := iprop(∃ K, records m ρ K ∗ places c ∗ payToks c)

def start (c : Dev nD) : sProp 𝕄 := iprop(ghost m ρ c ∗ credit c ∗ levAts L lv)

def Φ₀ (c : Dev nD) : sProp 𝕄 := iprop(start m ρ c ∗ ∃ f, scr c fullShare f)
/-- After the body: the scratch buffer, and the five counters at zero. -/
def Φ₁ (c : Dev nD) : sProp 𝕄 :=
  iprop((∃ f, scr c fullShare f) ∗ semVal (cellAt (c, 0)) 0 ∗ semVal (cellAt (c, 1)) 0 ∗ semVal (cellAt (c, 2)) 0 ∗ semVal (cellAt (c, 3)) 0 ∗ semVal (cellAt (c, 4)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wqAt m ρ c
    | ⟨2, _⟩ => kAt m ρ c
    | ⟨3, _⟩ => vAt m ρ c
    | ⟨4, _⟩ => woAt m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owed c
    | ⟨_ + 1, _⟩ => 0

abbrev 𝒱₀ : Variants := Variants.none

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Staging buffer `b` of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (xAt m ρ c) ∗ stg c cc0_stg1_0 (wqAt m ρ c) ∗ stg c cc0_stg2_0 (kAt m ρ c) ∗ stg c cc0_stg3_0 (vAt m ρ c)
    ∗ stg c cc0_stg4_0 (woAt m ρ c) ∗ stg c cc0_stg5_0 (outAt m ρ c))

/-! ## The body -/

abbrev theBody : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) cc0_scratch1 cc0_scratch2

/-- A cell closes once its schedule is over. -/
theorem close (K : Dev nD × Fin 5 → ℕ) (ck : Dev nD × Fin 5) (R : ℕ) (h : ∀ r, R ≤ r → (sched (F := F) m ρ).duties (cellAt ck) r = ∅) :
    iprop(records m ρ K ∗ atPos EB (cellAt ck) R ∅ 0) ⊢ (|={Set.univ}=> semVal (cellAt ck) 0 : sProp 𝕄) := by
  iintro ⟨#HR, Hat⟩
  imod (Rounds.cell_close EB (sched m ρ) (Set.mem_univ (K ck)) (fun h => h) (R := R) h) $$ [Hat] with Hz
  · isplitr; · iapply (records_inv m ρ K ck); iexact HR
    iexact Hat
  imodintro; iexact Hz

/-- The five cells of a device other than 0: only its receive cell was used. -/
theorem idle_other {c : Dev nD} (hc : c ≠ 0) (k : Fin 5) (hk : k ≠ 1) : ∀ r, 0 ≤ r → (sched (F := F) m ρ).duties (cellAt (c, k)) r = ∅ :=
  duties_idle m ρ _ (fun h => hc h.2.1) fun h => by
    rcases h.2 with h | h
    · exact hk (semOf_injective (a₁ := k) (a₂ := 1) h.2)
    · exact hc h.1

set_option maxHeartbeats 2000000 in
/-- The body on a device other than 0, one rule per effect in program order. -/
theorem body_other (c : Dev nD) (hc : c ≠ 0) (Kt : PUnit → sProp 𝕄) :
    iprop(bodyPre m ρ c ∗ (bodyPost m ρ c -∗ Kt ⟨⟩)) ⊢ wp frame (wpE (defs₀ (F := F)) 𝒱₀ c none) Set.univ theBody Kt := by
  unfold theBody
  simp only [cc0_body_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  simp only [dif_neg (cond1_ne hc), dif_pos (cond2_ne hc), dif_pos (isOther_ne hc), dif_neg (isZero_ne hc), Prog.bind_op, Prog.bind_ret, dev4_eq]
  unfold bodyPre Φ₀ start ghost places payToks credit
  rw [if_neg hc, if_neg hc]
  iintro ⟨⟨⟨⟨⟨%K, #HR, ⟨Hp0, Hp1, Hp2, Hp3, Hp4⟩, Htok⟩, Hcr, #Hlev⟩, ⟨%f0, Hscr⟩⟩, Ho, ⟨%d0, %g0, %h0, Hx⟩, ⟨%d1, %g1, %h1, Hwq⟩, ⟨%d2, %g2, %h2, Hk⟩,
    ⟨%d3, %g3, %h3, Hv⟩, ⟨%d4, %g4, %h4, Hwo⟩, ⟨%d5, %g5, %h5, Hout⟩⟩, HK⟩
  have e0 : g0 = xAt m ρ c := by rw [h0]; unfold Dat.before; rw [if_pos (fetch0_0 _)]; rfl
  have e1 : g1 = wqAt m ρ c := by rw [h1]; unfold Dat.before; rw [if_pos (fetch0_1 _)]; rfl
  have e2 : g2 = kAt m ρ c := by rw [h2]; unfold Dat.before; rw [if_pos (fetch0_2 _)]; rfl
  have e3 : g3 = vAt m ρ c := by rw [h3]; unfold Dat.before; rw [if_pos (fetch0_3 _)]; rfl
  have e4 : g4 = woAt m ρ c := by rw [h4]; unfold Dat.before; rw [if_pos (fetch0_4 _)]; rfl
  subst e0 e1 e2 e3 e4
  unfold Dat.owesAt Pipeline.owesWithin
  icases Ho with ⟨%W, %hW, HO⟩
  rw [show (dats m ρ 0 c).owed t0_0.castSucc = tallyAt barC () 1 from if_neg hc]
  -- the unit at device 0's barrier, with the scratch buffer
  iapply (Rounds.wp_signal 𝒱₀ EB (sched m ρ) (c : Thread nD τ) none (dst := ((0 : Dev nD) : Thread nD τ)) (κ := K (0, 0))
      (d := c) (by rw [duties_bar]; exact mem_others hc) ((amount_bar m ρ c).trans (by decide)) () 0 (by rw [zero_add]))
    $$ [HO Htok Hscr]
  · isplitr; · iapply (records_inv m ρ K (0, 0)); iexact HR
    isplitl [HO]; · iexact HO
    isplitl [Htok]; · iexact Htok
    isplitl [Hscr]
    · rw [payload_bar]; unfold barPay
      isplitl [Hscr]; · iexists f0; iexact Hscr
      iapply (records_reached m ρ K (c, 1)); iexact HR
    · iapply (records_reached m ρ K (0, 0)); iexact HR
  iintro HO
  -- the loads of the weights and of `x`
  iapply (wp_load 𝒱₀ (c : Thread nD τ) none Set.univ (m := wqM) (Finset.subset_univ _)) $$ Hwq; iintro Hwq
  iapply (wp_load 𝒱₀ (c : Thread nD τ) none Set.univ (m := woM) (Finset.subset_univ _)) $$ Hwo; iintro Hwo
  iapply (wp_load 𝒱₀ (c : Thread nD τ) none Set.univ (m := xM) (Finset.subset_univ _)) $$ Hx; iintro Hx
  rw [read_wq, read_wo, read_x]
  -- the wait for the landing
  iapply (Rounds.wp_wait_rest_token 𝒱₀ EB (sched m ρ) (c : Thread nD τ) none (κ := K (c, 1))
      (wpE_waitDma2_eq 𝒱₀ (c : Thread nD τ) none Set.univ) (Set.mem_univ _) () (O := 0) (W := W) (R := 0) (m := 0) (T := ∅)
      (by rw [Nat.zero_add]; exact (expect_recv m ρ hc).symm)) $$ [Hcr HO Hp1]
  · isplitr; · iapply (records_inv m ρ K (c, 1)); iexact HR
    isplitl [Hcr]; · iexact Hcr
    isplitl [HO]; · iexact HO
    isplitr; · rw [MayWait_zero]; iempintro
    iexact Hp1
  iintro ⟨HO, Hp1, -, Hpay⟩
  ihave Hscr := (Entails.of_eq (rest_recv m ρ hc)) $$ Hpay
  unfold recvPay
  ihave Hscr := (Entails.of_eq (show scr c fullShare (KV m ρ) = _ from rfl)) $$ Hscr
  unfold scr
  -- the two halves
  iapply (wp_load 𝒱₀ (c : Thread nD τ) none Set.univ (m := kvM) (by rw [kv_set]; exact Finset.subset_univ _)) $$ Hscr; iintro Hscr
  iapply (wp_load 𝒱₀ (c : Thread nD τ) none Set.univ (m := kvM) (by rw [kv_set]; exact Finset.subset_univ _)) $$ Hscr; iintro Hscr
  iapply (wp_load 𝒱₀ (c : Thread nD τ) none Set.univ (m := outM) (Finset.subset_univ _)) $$ Hout; iintro Hout
  iapply (wp_store 𝒱₀ (c : Thread nD τ) none Set.univ (m := outM) (r := Rect.unit (s := S256x512) ![0, 0] S128x512.size inb_S256x512_S128x512_0_0) (Mk := Finset.univ) (Finset.subset_univ _)) $$ Hout; iintro Hout
  iapply (wp_load 𝒱₀ (c : Thread nD τ) none Set.univ (m := kvM) (by rw [kv_set]; exact Finset.subset_univ _)) $$ Hscr; iintro Hscr
  iapply (wp_load 𝒱₀ (c : Thread nD τ) none Set.univ (m := kvM) (by rw [kv_set]; exact Finset.subset_univ _)) $$ Hscr; iintro Hscr
  iapply (wp_load 𝒱₀ (c : Thread nD τ) none Set.univ (m := outM) (Finset.subset_univ _)) $$ Hout; iintro Hout
  iapply (wp_store 𝒱₀ (c : Thread nD τ) none Set.univ (m := outM) (r := Rect.unit (s := S256x512) ![128, 0] S128x512.size inb_S256x512_S128x512_128_0) (Mk := Finset.univ) (Finset.subset_univ _)) $$ Hout; iintro Hout
  rw [write_halves, wp_ret]
  -- the five cells close
  imod (close m ρ K (c, 0) 0 (idle_other m ρ hc 0 (by decide))) $$ [Hp0] with Hz0
  · isplitr; · iexact HR
    iexact Hp0
  imod (close m ρ K (c, 1) 1 (duties_later m ρ _)) $$ [Hp1] with Hz1
  · isplitr; · iexact HR
    iexact Hp1
  imod (close m ρ K (c, 2) 0 (idle_other m ρ hc 2 (by decide))) $$ [Hp2] with Hz2
  · isplitr; · iexact HR
    iexact Hp2
  imod (close m ρ K (c, 3) 0 (idle_other m ρ hc 3 (by decide))) $$ [Hp3] with Hz3
  · isplitr; · iexact HR
    iexact Hp3
  imod (close m ρ K (c, 4) 0 (idle_other m ρ hc 4 (by decide))) $$ [Hp4] with Hz4
  · isplitr; · iexact HR
    iexact Hp4
  imodintro
  iapply HK
  unfold bodyPost Φ₁ Dat.owesAt Pipeline.owesWithin
  rw [show (dats m ρ 0 c).owed t0_0.succ = 0 from rfl]
  isplitl [Hscr Hz0 Hz1 Hz2 Hz3 Hz4]
  · isplitl [Hscr]; · iexists (KV m ρ); unfold scr; iexact Hscr
    isplitl [Hz0]; · iexact Hz0
    isplitl [Hz1]; · iexact Hz1
    isplitl [Hz2]; · iexact Hz2
    isplitl [Hz3]; · iexact Hz3
    iexact Hz4
  isplitl [HO]
  · iexists (insert (SemLoc.dma recvS, ()) W)
    isplitr; · ipureintro; exact fun _ _ => Or.inl trivial
    iexact HO
  isplitl [Hx]; · iexists _; isplitr; · (ipureintro; rfl)
                  iexact Hx
  isplitl [Hwq]; · iexists _; isplitr; · (ipureintro; rfl)
                   iexact Hwq
  isplitl [Hk]; · iexists _; isplitr; · (ipureintro; rfl)
                  iexact Hk
  isplitl [Hv]; · iexists _; isplitr; · (ipureintro; rfl)
                  iexact Hv
  isplitl [Hwo]; · iexists _; isplitr; · (ipureintro; rfl)
                   iexact Hwo
  iexists _; isplitr; · (ipureintro; rfl)
  iexact Hout

theorem owed_zero : owed (0 : Dev nD) = O₁ := by unfold owed; exact if_pos rfl

theorem dest_ne (j : Fin 3) : dest j ≠ 0 := Fin.succ_ne_zero j

/-- Copy `j` from device 0: the lent share of the packed buffer and the destination's buffer go in, the landing is paid off. -/
theorem send (K : Dev nD × Fin 5 → ℕ) (j : Fin 3) (n : Dev nD) (hn : n = dest j) (s : DmaSem sig) (hs : s = sendS j)
    (k₁ k₂ : Fin 5) (hk₁ : semOf k₁ = .dma s) (hk₂ : semOf k₂ = .dma recvS)
    {hsc : (kvM : Memref sig (Dev.tc n : Thread nD τ).2.kind .vmem S2x256x256 .bf16).view.ref.isScScratch = false}
    {hsrc : (kvM : Memref sig .tc .vmem S2x256x256 .bf16).view.WordExact} {hdst : (kvM : Memref sig .tc .vmem S2x256x256 .bf16).view.WordExact}
    {hsem : DmaTarget.Typed .vmem (.dma recvS) (.remote (Dev.tc n : Thread nD τ) (kvM : Memref sig .tc .vmem S2x256x256 .bf16) (.dma s) hsc)}
    {α : Type} {Q : α → sProp 𝕄} {k : PUnit → Prog (TpuEff nD τ sig (Elt F) Λ₀ .tc) α}
    (f : (cc0_scratch0 : Ref sig .tc).ty.Contents (Elt F)) (O : CellTallies nD τ sig Unit) (W : Waits sig Unit) :
    iprop(records m ρ K ∗ scr 0 (lent j) (KV m ρ) ∗ scr (dest j) fullShare f
        ∗ owes ((0 : Dev nD) : Thread nD τ) (O + tallyAt (recvC (dest j)) () N) W
        ∗ dutyTok EB (sendC' j) 0 0 ∗ dutyTok EB (recvC (dest j)) 0 0)
      ⊢ iprop(((cred (tallyAt (sendC' j) () N) ∗ owes ((0 : Dev nD) : Thread nD τ) O W)
            -∗ wp frame (wpE (defs₀ (F := F)) 𝒱₀ ((0 : Dev nD) : Thread nD τ) none) Set.univ (k ⟨⟩) Q)
          -∗ wp frame (wpE (defs₀ (F := F)) 𝒱₀ ((0 : Dev nD) : Thread nD τ) none) Set.univ
              (.op (.enqueueDma kvM (.remote (Dev.tc n : Thread nD τ) kvM (.dma s) hsc) (.dma recvS) hsrc hdst hsem) k) Q) := by
  subst hn hs
  have c₁ : cellAt (0, k₁) = sendC' j := congrArg (Prod.mk _) hk₁
  have c₂ : cellAt (dest j, k₂) = recvC (dest j) := congrArg (Prod.mk _) hk₂
  have i₁ : records m ρ K ⊢ cellInv EB (sched m ρ) (K (0, k₁)) (sendC' j) := c₁ ▸ records_inv m ρ K (0, k₁)
  have i₂ : records m ρ K ⊢ cellInv EB (sched m ρ) (K (dest j, k₂)) (recvC (dest j)) := c₂ ▸ records_inv m ρ K (dest j, k₂)
  have r₁ : records m ρ K ⊢ reached EB (sendC' j) 0 := c₁ ▸ records_reached m ρ K (0, k₁)
  have r₂ : records m ρ K ⊢ reached EB (recvC (dest j)) 0 := c₂ ▸ records_reached m ρ K (dest j, k₂)
  refine BIBase.Entails.trans ?_ (Rounds.wp_send_pointsTo 𝒱₀ EB (sched m ρ) ((0 : Dev nD) : Thread nD τ) none (κ₁ := K (0, k₁)) (κ₂ := K (dest j, k₂))
    (r₁ := 0) (r₂ := 0) (d₁ := 0) (d₂ := 0) (fd := f) (fs := KV m ρ) (q := lent j)
    (by rw [duties_send]; exact Finset.mem_singleton_self _) (by rw [duties_recv m ρ (dest_ne j)]; exact Finset.mem_singleton_self _)
    () () N rfl (amount_send m ρ j 0) (amount_recv m ρ (dest j) 0) O rfl (W := W)
    (by rw [payload_send]; exact BI.Entails.refl _)
    (by rw [payload_recv]; unfold recvPay scr; rw [copied]))
  unfold scr
  iintro ⟨#HR, Hs, Hd, HO, Ht₁, Ht₂⟩
  isplitr; · iapply i₁; iexact HR
  isplitr; · iapply i₂; iexact HR
  isplitl [Hs]; · iexact Hs
  isplitl [Hd]; · iexact Hd
  isplitl [HO]; · iexact HO
  isplitl [Ht₁]; · iexact Ht₁
  isplitr; · iapply r₁; iexact HR
  isplitl [Ht₂]; · iexact Ht₂
  iapply r₂; iexact HR

/-! What the wait on each send cell gives back: -/
theorem restA : bigSep ((sched (F := F) m ρ).duties ((((0 : Dev nD) : Thread nD τ), .dma sendA) : GSem nD τ sig) 0 \ ∅)
    (fun d => (sched (F := F) m ρ).payload ((((0 : Dev nD) : Thread nD τ), .dma sendA) : GSem nD τ sig) 0 d) = scr 0 (lent 0) (KV m ρ) := rest_send m ρ 0
theorem restB : bigSep ((sched (F := F) m ρ).duties ((((0 : Dev nD) : Thread nD τ), .dma sendB) : GSem nD τ sig) 0 \ ∅)
    (fun d => (sched (F := F) m ρ).payload ((((0 : Dev nD) : Thread nD τ), .dma sendB) : GSem nD τ sig) 0 d) = scr 0 (lent 1) (KV m ρ) := rest_send m ρ 1
theorem restC : bigSep ((sched (F := F) m ρ).duties ((((0 : Dev nD) : Thread nD τ), .dma sendC) : GSem nD τ sig) 0 \ ∅)
    (fun d => (sched (F := F) m ρ).payload ((((0 : Dev nD) : Thread nD τ), .dma sendC) : GSem nD τ sig) 0 d) = scr 0 (lent 2) (KV m ρ) := rest_send m ρ 2

/-- Device 0's receive cell was never used. -/
theorem idle_zero : ∀ r, 0 ≤ r → (sched (F := F) m ρ).duties (cellAt (0, 1)) r = ∅ :=
  duties_idle m ρ _ (fun h => recv_ne_bar h.2.2) fun h => by
    rcases h.2 with h | ⟨-, h | h | h⟩
    · exact h.1 rfl
    · exact send_ne_recv 0 h.symm
    · exact send_ne_recv 1 h.symm
    · exact send_ne_recv 2 h.symm

set_option maxHeartbeats 4000000 in
/-- The body on device 0, one rule per effect in program order. -/
theorem body_zero (Kt : PUnit → sProp 𝕄) :
    iprop(bodyPre m ρ 0 ∗ (bodyPost m ρ 0 -∗ Kt ⟨⟩)) ⊢ wp frame (wpE (defs₀ (F := F)) 𝒱₀ (0 : Dev nD) none) Set.univ theBody Kt := by
  unfold theBody
  simp only [cc0_body_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  simp only [dif_pos cond1_zero, dif_neg cond2_zero, dif_neg isOther_zero, dif_pos isZero_zero, Prog.bind_op, Prog.bind_ret]
  unfold bodyPre Φ₀ start ghost places payToks credit toksZero
  rw [if_pos rfl, if_pos rfl]
  iintro ⟨⟨⟨⟨⟨%K, #HR, ⟨Hp0, Hp1, Hp2, Hp3, Hp4⟩, ⟨Hr1, Hr2, Hr3⟩, Hs1, Hs2, Hs3⟩, Hcr, #Hlev⟩, ⟨%f0, Hscr⟩⟩, Ho, ⟨%d0, %g0, %h0, Hx⟩, ⟨%d1, %g1, %h1, Hwq⟩, ⟨%d2, %g2, %h2, Hk⟩,
    ⟨%d3, %g3, %h3, Hv⟩, ⟨%d4, %g4, %h4, Hwo⟩, ⟨%d5, %g5, %h5, Hout⟩⟩, HK⟩
  have e0 : g0 = xAt m ρ 0 := by rw [h0]; unfold Dat.before; rw [if_pos (fetch0_0 _)]; rfl
  have e1 : g1 = wqAt m ρ 0 := by rw [h1]; unfold Dat.before; rw [if_pos (fetch0_1 _)]; rfl
  have e2 : g2 = kAt m ρ 0 := by rw [h2]; unfold Dat.before; rw [if_pos (fetch0_2 _)]; rfl
  have e3 : g3 = vAt m ρ 0 := by rw [h3]; unfold Dat.before; rw [if_pos (fetch0_3 _)]; rfl
  have e4 : g4 = woAt m ρ 0 := by rw [h4]; unfold Dat.before; rw [if_pos (fetch0_4 _)]; rfl
  subst e0 e1 e2 e3 e4
  unfold Dat.owesAt Pipeline.owesWithin
  icases Ho with ⟨%W, %hW, HO⟩
  rw [show (dats m ρ 0 0).owed t0_0.castSucc = O₁ from owed_zero]
  -- the wait for three units: the other devices' scratch buffers come with them
  iapply (Rounds.wp_wait_rest_token 𝒱₀ EB (sched m ρ) ((0 : Dev nD) : Thread nD τ) none (κ := K (0, 0))
      (wpE_semWait_eq 𝒱₀ ((0 : Dev nD) : Thread nD τ) none Set.univ) (Set.mem_univ _) () (O := O₁) (W := W) (R := 0) (m := 0) (T := ∅)
      (by rw [Nat.zero_add]; exact (by decide : _ = 3).trans (expect_bar m ρ).symm)) $$ [Hcr HO Hp0]
  · isplitr; · iapply (records_inv m ρ K (0, 0)); iexact HR
    isplitl [Hcr]; · iexact Hcr
    isplitl [HO]; · iexact HO
    isplitr; · iapply (mayWait_bar (F := F)); iexact Hlev
    iexact Hp0
  iintro ⟨HO, Hp0, -, Hpay⟩
  ihave Hp := (Entails.of_eq (rest_bar m ρ)) $$ Hpay
  unfold barPay
  icases Hp with ⟨⟨⟨%fa, Hda⟩, -⟩, ⟨⟨%fb, Hdb⟩, -⟩, ⟨%fc, Hdc⟩, -⟩
  -- the two planes are packed
  ihave Hscr := (Entails.of_eq (show scr 0 fullShare f0 = _ by unfold scr; rfl)) $$ Hscr
  iapply (wp_load 𝒱₀ ((0 : Dev nD) : Thread nD τ) none Set.univ (m := kM) (Finset.subset_univ _)) $$ Hk; iintro Hk
  iapply (wp_load 𝒱₀ ((0 : Dev nD) : Thread nD τ) none Set.univ (m := kvM) (by rw [kv_set]; exact Finset.subset_univ _)) $$ Hscr; iintro Hscr
  iapply (wp_store 𝒱₀ ((0 : Dev nD) : Thread nD τ) none Set.univ (m := kvM) (r := Rect.unit (s := S2x256x256) ![0, 0, 0] S1x256x256.size inb_S2x256x256_S1x256x256_0_0_0) (Mk := Finset.univ) (by rw [kv_set]; exact Finset.subset_univ _)) $$ Hscr; iintro Hscr
  iapply (wp_load 𝒱₀ ((0 : Dev nD) : Thread nD τ) none Set.univ (m := vM) (Finset.subset_univ _)) $$ Hv; iintro Hv
  iapply (wp_load 𝒱₀ ((0 : Dev nD) : Thread nD τ) none Set.univ (m := kvM) (by rw [kv_set]; exact Finset.subset_univ _)) $$ Hscr; iintro Hscr
  iapply (wp_store 𝒱₀ ((0 : Dev nD) : Thread nD τ) none Set.univ (m := kvM) (r := Rect.unit (s := S2x256x256) ![1, 0, 0] S1x256x256.size inb_S2x256x256_S1x256x256_1_0_0) (Mk := Finset.univ) (by rw [kv_set]; exact Finset.subset_univ _)) $$ Hscr; iintro Hscr
  rw [read_k, read_v, write_planes]
  -- the three copies
  ihave Hscr := (Entails.of_eq (show _ = scr 0 fullShare (KV m ρ) by unfold scr KV; rfl)) $$ Hscr
  ihave Hsp := (Entails.of_eq (scr_split (KV m ρ))) $$ Hscr
  icases Hsp with ⟨Hscr, Hl0, Hl1, Hl2⟩
  unfold O₁
  iapply (send m ρ K 0 _ (dev1_eq cond1_zero) _ rfl 2 1 rfl rfl fa O₂ (insert (SemLoc.reg barS, ()) W)) $$ [Hl0 Hda HO Hs1 Hr1]
  · isplitr; · iexact HR
    isplitl [Hl0]; · iexact Hl0
    isplitl [Hda]; · iexact Hda
    isplitl [HO]; · iexact HO
    isplitl [Hs1]; · iexact Hs1
    iexact Hr1
  iintro ⟨Hc0, HO⟩
  unfold O₂
  iapply (send m ρ K 1 _ (dev2_eq cond1_zero) _ rfl 3 1 rfl rfl fb O₃ (insert (SemLoc.reg barS, ()) W)) $$ [Hl1 Hdb HO Hs2 Hr2]
  · isplitr; · iexact HR
    isplitl [Hl1]; · iexact Hl1
    isplitl [Hdb]; · iexact Hdb
    isplitl [HO]; · iexact HO
    isplitl [Hs2]; · iexact Hs2
    iexact Hr2
  iintro ⟨Hc1, HO⟩
  ihave HO := (Entails.of_eq (show owes ((0 : Dev nD) : Thread nD τ) O₃ (insert (SemLoc.reg barS, ()) W) = (owes ((0 : Dev nD) : Thread nD τ) (0 + tallyAt (recvC (dest 2)) () N) (insert (SemLoc.reg barS, ()) W) : sProp 𝕄) by rw [zero_add]; rfl)) $$ HO
  iapply (send m ρ K 2 _ (dev3_eq cond1_zero) _ rfl 4 1 rfl rfl fc 0 (insert (SemLoc.reg barS, ()) W)) $$ [Hl2 Hdc HO Hs3 Hr3]
  · isplitr; · iexact HR
    isplitl [Hl2]; · iexact Hl2
    isplitl [Hdc]; · iexact Hdc
    isplitl [HO]; · iexact HO
    isplitl [Hs3]; · iexact Hs3
    iexact Hr3
  iintro ⟨Hc2, HO⟩
  -- the loads of the weights and of `x`
  iapply (wp_load 𝒱₀ ((0 : Dev nD) : Thread nD τ) none Set.univ (m := wqM) (Finset.subset_univ _)) $$ Hwq; iintro Hwq
  iapply (wp_load 𝒱₀ ((0 : Dev nD) : Thread nD τ) none Set.univ (m := woM) (Finset.subset_univ _)) $$ Hwo; iintro Hwo
  iapply (wp_load 𝒱₀ ((0 : Dev nD) : Thread nD τ) none Set.univ (m := xM) (Finset.subset_univ _)) $$ Hx; iintro Hx
  rw [read_wq, read_wo, read_x]
  -- the two halves, read through the kept share
  ihave Hscr := (Entails.of_eq (show scr 0 kept (KV m ρ) = _ by unfold scr; rfl)) $$ Hscr
  iapply (wp_load 𝒱₀ ((0 : Dev nD) : Thread nD τ) none Set.univ (m := kvM) (by rw [kv_set]; exact Finset.subset_univ _)) $$ Hscr; iintro Hscr
  iapply (wp_load 𝒱₀ ((0 : Dev nD) : Thread nD τ) none Set.univ (m := kvM) (by rw [kv_set]; exact Finset.subset_univ _)) $$ Hscr; iintro Hscr
  iapply (wp_load 𝒱₀ ((0 : Dev nD) : Thread nD τ) none Set.univ (m := outM) (Finset.subset_univ _)) $$ Hout; iintro Hout
  iapply (wp_store 𝒱₀ ((0 : Dev nD) : Thread nD τ) none Set.univ (m := outM) (r := Rect.unit (s := S256x512) ![0, 0] S128x512.size inb_S256x512_S128x512_0_0) (Mk := Finset.univ) (Finset.subset_univ _)) $$ Hout; iintro Hout
  iapply (wp_load 𝒱₀ ((0 : Dev nD) : Thread nD τ) none Set.univ (m := kvM) (by rw [kv_set]; exact Finset.subset_univ _)) $$ Hscr; iintro Hscr
  iapply (wp_load 𝒱₀ ((0 : Dev nD) : Thread nD τ) none Set.univ (m := kvM) (by rw [kv_set]; exact Finset.subset_univ _)) $$ Hscr; iintro Hscr
  iapply (wp_load 𝒱₀ ((0 : Dev nD) : Thread nD τ) none Set.univ (m := outM) (Finset.subset_univ _)) $$ Hout; iintro Hout
  iapply (wp_store 𝒱₀ ((0 : Dev nD) : Thread nD τ) none Set.univ (m := outM) (r := Rect.unit (s := S256x512) ![128, 0] S128x512.size inb_S256x512_S128x512_128_0) (Mk := Finset.univ) (Finset.subset_univ _)) $$ Hout; iintro Hout
  rw [write_halves]
  -- the three waits for the copies to finish: the lent shares come back
  iapply (Rounds.wp_wait_rest_token 𝒱₀ EB (sched m ρ) ((0 : Dev nD) : Thread nD τ) none (κ := K (0, 2))
      (wpE_waitDma2_eq 𝒱₀ ((0 : Dev nD) : Thread nD τ) none Set.univ) (Set.mem_univ _) () (O := 0) (W := insert (SemLoc.reg barS, ()) W) (R := 0) (m := 0) (T := ∅)
      (by rw [Nat.zero_add]; exact (expect_send m ρ 0).symm)) $$ [Hc0 HO Hp2]
  · isplitr; · iapply (records_inv m ρ K (0, 2)); iexact HR
    isplitl [Hc0]; · iexact Hc0
    isplitl [HO]; · iexact HO
    isplitr; · rw [MayWait_zero]; iempintro
    iexact Hp2
  iintro ⟨HO, Hp2, -, Hpay⟩
  ihave Hl0 := (Entails.of_eq (restA m ρ)) $$ Hpay
  iapply (Rounds.wp_wait_rest_token 𝒱₀ EB (sched m ρ) ((0 : Dev nD) : Thread nD τ) none (κ := K (0, 3))
      (wpE_waitDma2_eq 𝒱₀ ((0 : Dev nD) : Thread nD τ) none Set.univ) (Set.mem_univ _) () (O := 0)
      (W := insert (SemLoc.dma sendA, ()) (insert (SemLoc.reg barS, ()) W)) (R := 0) (m := 0) (T := ∅)
      (by rw [Nat.zero_add]; exact (expect_send m ρ 1).symm)) $$ [Hc1 HO Hp3]
  · isplitr; · iapply (records_inv m ρ K (0, 3)); iexact HR
    isplitl [Hc1]; · iexact Hc1
    isplitl [HO]; · iexact HO
    isplitr; · rw [MayWait_zero]; iempintro
    iexact Hp3
  iintro ⟨HO, Hp3, -, Hpay⟩
  ihave Hl1 := (Entails.of_eq (restB m ρ)) $$ Hpay
  iapply (Rounds.wp_wait_rest_token 𝒱₀ EB (sched m ρ) ((0 : Dev nD) : Thread nD τ) none (κ := K (0, 4))
      (wpE_waitDma2_eq 𝒱₀ ((0 : Dev nD) : Thread nD τ) none Set.univ) (Set.mem_univ _) () (O := 0)
      (W := insert (SemLoc.dma sendB, ()) (insert (SemLoc.dma sendA, ()) (insert (SemLoc.reg barS, ()) W))) (R := 0) (m := 0) (T := ∅)
      (by rw [Nat.zero_add]; exact (expect_send m ρ 2).symm)) $$ [Hc2 HO Hp4]
  · isplitr; · iapply (records_inv m ρ K (0, 4)); iexact HR
    isplitl [Hc2]; · iexact Hc2
    isplitl [HO]; · iexact HO
    isplitr; · rw [MayWait_zero]; iempintro
    iexact Hp4
  iintro ⟨HO, Hp4, -, Hpay⟩
  ihave Hl2 := (Entails.of_eq (restC m ρ)) $$ Hpay
  rw [wp_ret]
  -- the five cells close
  imod (close m ρ K (0, 0) 1 (duties_later m ρ _)) $$ [Hp0] with Hz0
  · isplitr; · iexact HR
    iexact Hp0
  imod (close m ρ K (0, 1) 0 (idle_zero m ρ)) $$ [Hp1] with Hz1
  · isplitr; · iexact HR
    iexact Hp1
  imod (close m ρ K (0, 2) 1 (duties_later m ρ _)) $$ [Hp2] with Hz2
  · isplitr; · iexact HR
    iexact Hp2
  imod (close m ρ K (0, 3) 1 (duties_later m ρ _)) $$ [Hp3] with Hz3
  · isplitr; · iexact HR
    iexact Hp3
  imod (close m ρ K (0, 4) 1 (duties_later m ρ _)) $$ [Hp4] with Hz4
  · isplitr; · iexact HR
    iexact Hp4
  imodintro
  iapply HK
  unfold bodyPost Φ₁ Dat.owesAt Pipeline.owesWithin
  rw [show (dats m ρ 0 0).owed t0_0.succ = 0 from rfl]
  isplitl [Hscr Hl0 Hl1 Hl2 Hz0 Hz1 Hz2 Hz3 Hz4]
  · isplitl [Hscr Hl0 Hl1 Hl2]
    · iexists (KV m ρ); rw [scr_split]
      isplitl [Hscr]; · unfold scr; iexact Hscr
      isplitl [Hl0]; · iexact Hl0
      isplitl [Hl1]; · iexact Hl1
      iexact Hl2
    isplitl [Hz0]; · iexact Hz0
    isplitl [Hz1]; · iexact Hz1
    isplitl [Hz2]; · iexact Hz2
    isplitl [Hz3]; · iexact Hz3
    iexact Hz4
  isplitl [HO]
  · iexists (insert (SemLoc.dma sendC, ()) (insert (SemLoc.dma sendB, ()) (insert (SemLoc.dma sendA, ()) (insert (SemLoc.reg barS, ()) W))))
    isplitr; · ipureintro; exact fun _ _ => Or.inl trivial
    iexact HO
  isplitl [Hx]; · iexists _; isplitr; · (ipureintro; rfl)
                  iexact Hx
  isplitl [Hwq]; · iexists _; isplitr; · (ipureintro; rfl)
                   iexact Hwq
  isplitl [Hk]; · iexists _; isplitr; · (ipureintro; rfl)
                  iexact Hk
  isplitl [Hv]; · iexists _; isplitr; · (ipureintro; rfl)
                  iexact Hv
  isplitl [Hwo]; · iexists _; isplitr; · (ipureintro; rfl)
                   iexact Hwo
  iexists _; isplitr; · (ipureintro; rfl)
  iexact Hout

theorem body (c : Dev nD) (Kt : PUnit → sProp 𝕄) :
    iprop(bodyPre m ρ c ∗ (bodyPost m ρ c -∗ Kt ⟨⟩)) ⊢ wp frame (wpE (defs₀ (F := F)) 𝒱₀ c none) Set.univ theBody Kt := by
  by_cases hc : c = 0
  · subst hc; exact body_zero m ρ Kt
  · exact body_other m ρ c hc Kt

set_option maxRecDepth 4000 in
/-- What the staging pipeline asks of the body on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ theBody (fun _ => bodyPost m ρ c)
  iintro H
  iapply (body m ρ c fun _ => bodyPost m ρ c)
  isplitl [H]; · iexact H
  iintro H; iexact H

end Cert.Bcast

end
-- ==== Proof.Run.lean ====
/-
# The run of the four devices

The launch deals every device its staging state, its five cells and the duties it pays; the theorem at the end says how
every run ends.
-/
module

public import proofs.«01_k».proof.Proof.Body
public import Idealize.ShloMosaic.Lib.Pipeline.CollectiveSegs

@[expose] public section

noncomputable section

namespace Cert.Bcast

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cells and duties at launch -/

theorem ownSemFacts : Pipeline.OwnSemFacts cfg0.spec ownOf := by decide

theorem share_full (c : Dev nD) (w : Fin cfg0.W) : (dats m ρ 0 c).share w = fullShare := by unfold Dat.share; split <;> rfl

theorem cellAt_injective : Function.Injective (cellAt : Dev nD × Fin 5 → GSem nD τ sig) := by
  rintro ⟨c, k⟩ ⟨c', k'⟩ h
  exact Prod.ext (congrArg (fun g : GSem nD τ sig => g.1.1) h) (semOf_injective (congrArg Prod.snd h))
def theCells : Finset (GSem nD τ sig) := Finset.univ.map ⟨cellAt, cellAt_injective⟩

/-- The nine duties: three landings, three sends, three units at the barrier. -/
def dutyOf : Fin 9 → GSem nD τ sig × ℕ × Dev nD := fun
  | 0 => (recvC 1, 0, 0) | 1 => (recvC 2, 0, 0) | 2 => (recvC 3, 0, 0)
  | 3 => (sendC' 0, 0, 0) | 4 => (sendC' 1, 0, 0) | 5 => (sendC' 2, 0, 0)
  | 6 => (barC, 0, 1) | 7 => (barC, 0, 2) | 8 => (barC, 0, 3)
theorem dutyOf_injective : Function.Injective dutyOf := by decide
def theToks : Finset (GSem nD τ sig × ℕ × Dev nD) := Finset.univ.map ⟨dutyOf, dutyOf_injective⟩

def u₀ : UU := (initOf (Pipeline.cells cfgs cellOf_inj) (Pipeline.launchToks cfgs cellOf_inj), initOf theCells theToks)

/-- What a device is dealt: the state of its cells, where it stands at them, the duties it pays. -/
def G (c : Dev nD) : sProp 𝕄 :=
  iprop((bigSep Finset.univ fun k : Fin 5 => roundState EB (sched m ρ) (cellAt (c, k)) 0)
    ∗ (bigSep Finset.univ fun k : Fin 5 => iprop(atPos EB (cellAt (c, k)) 0 ∅ 0 ∗ reached EB (cellAt (c, k)) 0)) ∗ payToks c)

theorem sum4 (Φ : Dev nD → sProp 𝕄) : bigSep Finset.univ Φ = iprop(Φ 0 ∗ Φ 1 ∗ Φ 2 ∗ Φ 3) := bigSep_univ_eq_bigSepL [0, 1, 2, 3] (by decide) (by decide) Φ
theorem sum5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem sum9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The nine duties, each with the device that pays it. -/
theorem toks_dealt : bigSep theToks (fun x => (dutyTok EB x.1 x.2.1 x.2.2 : sProp 𝕄)) ⊢ bigSep Finset.univ fun c : Dev nD => payToks c := by
  unfold theToks
  rw [bigSep_map, sum9, sum4]
  unfold payToks toksZero
  rw [if_pos rfl, if_neg (by decide), if_neg (by decide), if_neg (by decide)]
  iintro ⟨H0, H1, H2, H3, H4, H5, H6, H7, H8⟩
  isplitl [H0 H1 H2 H3 H4 H5]
  · isplitl [H0 H1 H2]
    · isplitl [H0]; · iexact H0
      isplitl [H1]; · iexact H1
      iexact H2
    isplitl [H3]; · iexact H3
    isplitl [H4]; · iexact H4
    iexact H5
  isplitl [H6]; · iexact H6
  isplitl [H7]; · iexact H7
  iexact H8

theorem fund_all : BI.own (EB (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 5 => Φ (cellAt (c, k)) := by
    unfold theCells; rw [bigSep_map, bigSep_univ_prod]; rfl
  iintro HX
  imod (Rounds.fund EB (sched m ρ) theCells theToks) $$ HX with ⟨Hst, Hr, Hat, Htok⟩
  imodintro
  ihave Hst := (Entails.of_eq (hX fun g => roundState EB (sched m ρ) g 0)) $$ Hst
  ihave Hat := (Entails.of_eq (hX fun g => atPos EB g 0 ∅ 0)) $$ Hat
  ihave Hr := (Entails.of_eq (hX fun g => reached EB g 0)) $$ Hr
  ihave Htok := (toks_dealt (F := F)) $$ Htok
  unfold G; simp only [bigSep_sep']
  isplitl [Hst]; · iexact Hst
  isplitl [Hat Hr]
  · isplitl [Hat] <;> iassumption
  iexact Htok

/-- The receive and the three send semaphores belong to the launch, -/
theorem ownSems_eq (c : Dev nD) : (Pipeline.ownSems0 (Ix := Unit) (Name := ℕ) (U := UU) (Lvl := ℕ) (Val := Elt F) (τ := τ) ownOf c : sProp 𝕄)
    = iprop(semVal (cellAt (c, 1)) 0 ∗ semVal (cellAt (c, 2)) 0 ∗ semVal (cellAt (c, 3)) 0 ∗ semVal (cellAt (c, 4)) 0) := by
  rw [Pipeline.ownSems0_eq_of_list c ownOf [0, 1, 2, 3] (by decide) (by decide)]; rfl
/-- and the barrier semaphore is the one that does not. -/
theorem barSem_eq (c : Dev nD) : (unscopedSems0 c : sProp 𝕄) = semVal (cellAt (c, 0)) 0 := by
  unfold unscopedSems0; rw [bigSep_eq_bigSepL_of_eq [SemLoc.reg barS] (by decide) (by decide)]; rfl

theorem cells_alloc (c : Dev nD) :
    iprop(Pipeline.ownSems0 (Ix := Unit) (Name := ℕ) (U := UU) (Lvl := ℕ) (Val := Elt F) (τ := τ) ownOf c ∗ unscopedSems0 c ∗ G m ρ c)
      ⊢ |={Set.univ}=> iprop((bigSep Finset.univ fun k => iprop(∃ κ : ℕ, cellInv EB (sched m ρ) κ (cellAt (c, k))))
          ∗ (bigSep Finset.univ fun k => iprop(atPos EB (cellAt (c, k)) 0 ∅ 0 ∗ reached EB (cellAt (c, k)) 0)) ∗ payToks c) := by
  unfold G
  iintro ⟨Hos, Hus, Hst, Hat, Htok⟩
  ihave Hos := (Entails.of_eq (ownSems_eq (F := F) c)) $$ Hos
  ihave Hus := (Entails.of_eq (barSem_eq (F := F) c)) $$ Hus
  imod (show iprop((bigSep Finset.univ fun k : Fin 5 => semVal (cellAt (c, k)) 0) ∗ bigSep Finset.univ fun k : Fin 5 => roundState EB (sched m ρ) (cellAt (c, k)) 0)
      ⊢ (|={Set.univ}=> bigSep Finset.univ fun k => iprop(∃ κ : ℕ, cellInv EB (sched m ρ) κ (cellAt (c, k))) : sProp 𝕄) from by
        rw [← bigSep_sep']
        exact (bigSep_mono fun k _ => (Rounds.body_intro EB (sched m ρ) (cellAt (c, k))).trans inv_alloc).trans (bigSep_fupd _ _)) $$ [Hos Hus Hst] with Hinv
  · isplitl [Hos Hus]
    · rw [sum5]
      isplitl [Hus]; · iexact Hus
      iexact Hos
    iexact Hst
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 5 → ℕ) (c : Dev nD) :
    iprop(records m ρ K ∗ (bigSep Finset.univ fun k : Fin 5 => atPos EB (cellAt (c, k)) 0 ∅ 0) ∗ payToks c) ⊢ ghost m ρ c := by
  rw [sum5]
  unfold ghost places
  iintro ⟨HR, Hp, Ht⟩
  iexists K
  isplitl [HR]; · iexact HR
  isplitl [Hp] <;> iassumption

theorem regroup :
    (bigSep Finset.univ fun c : Dev nD => iprop((bigSep Finset.univ fun k => iprop(∃ κ : ℕ, cellInv EB (sched m ρ) κ (cellAt (c, k))))
          ∗ (bigSep Finset.univ fun k => iprop(atPos EB (cellAt (c, k)) 0 ∅ 0 ∗ reached EB (cellAt (c, k)) 0)) ∗ payToks c) : sProp 𝕄)
      ⊢ bigSep Finset.univ (ghost m ρ) := by
  rw [bigSep_sep', bigSep_sep', ← bigSep_univ_prod (fun ck : Dev nD × Fin 5 => iprop(∃ κ : ℕ, cellInv EB (sched m ρ) κ (cellAt ck))),
    bigSep_congr (s := Finset.univ) (fun (c : Dev nD) _ => bigSep_sep' Finset.univ (fun k : Fin 5 => (atPos EB (cellAt (c, k)) 0 ∅ 0 : sProp 𝕄)) (fun k => reached EB (cellAt (c, k)) 0)),
    bigSep_sep', ← bigSep_univ_prod (fun ck : Dev nD × Fin 5 => (reached EB (cellAt ck) 0 : sProp 𝕄))]
  iintro ⟨HI, ⟨Hat, #HR⟩, Htok⟩
  ihave HK := (BI.bigSep_exists_pi Finset.univ (fun (ck : Dev nD × Fin 5) (κ : ℕ) => (cellInv EB (sched m ρ) κ (cellAt ck) : sProp 𝕄))) $$ HI
  icases HK with ⟨%K, #HI⟩
  iapply (with_persistent (R := records m ρ K) fun c _ => ghost_intro m ρ K c)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) ownOf c ∗ unscopedSems0 c ∗ G m ρ c) : sProp 𝕄)
    ⊢ |={Set.univ}=> bigSep Finset.univ (ghost m ρ) :=
  ((bigSep_mono fun c _ => cells_alloc m ρ c).trans (bigSep_fupd _ _)).trans (BI.fupd_mono (regroup m ρ))

/-! ## The credit -/

theorem recv_eq {a b : Dev nD} (h : recvC a = recvC b) : a = b := congrArg (fun g : GSem nD τ sig => g.1.1) h

/-- What a device owes at device 0's barrier: one unit, unless it is device 0. -/
theorem owed_bar (d : Dev nD) : owed d barC () = if d = 0 then 0 else 1 := by
  unfold owed
  by_cases h : d = 0
  · rw [if_pos h, if_pos h]; unfold O₁ O₂ O₃
    rw [Pi.add_apply, Finsupp.add_apply, Pi.add_apply, Finsupp.add_apply, tallyAt_ne_cell (fun h => recv_ne_bar (congrArg Prod.snd h).symm),
      tallyAt_ne_cell (fun h => recv_ne_bar (congrArg Prod.snd h).symm), tallyAt_ne_cell (fun h => recv_ne_bar (congrArg Prod.snd h).symm)]
    rfl
  · rw [if_neg h, if_neg h, tallyAt_apply, if_pos ⟨rfl, rfl⟩]

/-- What a device owes at the receive cell of a device other than 0: the landing, if it is device 0. -/
theorem owed_recv (d : Dev nD) {c : Dev nD} (hc : c ≠ 0) : owed d (recvC c) () = if d = 0 then N else 0 := by
  unfold owed
  by_cases h : d = 0
  · rw [if_pos h, if_pos h]; unfold O₁ O₂ O₃
    rw [Pi.add_apply, Finsupp.add_apply, Pi.add_apply, Finsupp.add_apply, tallyAt_apply, tallyAt_apply, tallyAt_apply]
    rcases (by revert c; decide : c = 1 ∨ c = 2 ∨ c = 3) with rfl | rfl | rfl
    · rw [if_neg (fun e => absurd (recv_eq e.1) (by decide)), if_neg (fun e => absurd (recv_eq e.1) (by decide)), if_pos ⟨rfl, rfl⟩, Nat.zero_add]
    · rw [if_neg (fun e => absurd (recv_eq e.1) (by decide)), if_pos ⟨rfl, rfl⟩, if_neg (fun e => absurd (recv_eq e.1) (by decide)), Nat.zero_add, Nat.add_zero]
    · rw [if_pos ⟨rfl, rfl⟩, if_neg (fun e => absurd (recv_eq e.1) (by decide)), if_neg (fun e => absurd (recv_eq e.1) (by decide)), Nat.add_zero]
  · rw [if_neg h, if_neg h, tallyAt_ne_cell (fun h => recv_ne_bar (congrArg Prod.snd h))]; rfl

theorem launch_bar : tallyOn barC (launchCredit (Pipeline.owing owed) 0 barC) = (tallyAt barC () 3 : CellTallies nD τ sig Unit) := by
  unfold tallyAt; refine congrArg _ (Finsupp.ext fun u => ?_); cases u
  rw [Pipeline.launchCredit_owing, Finsupp.single_eq_same, Finset.sum_congr rfl fun d _ => owed_bar d]
  decide

theorem launch_recv {c : Dev nD} (hc : c ≠ 0) :
    tallyOn (recvC c) (launchCredit (Pipeline.owing owed) 0 (recvC c)) = (tallyAt (recvC c) () N : CellTallies nD τ sig Unit) := by
  unfold tallyAt; refine congrArg _ (Finsupp.ext fun u => ?_); cases u
  rw [Pipeline.launchCredit_owing, Finsupp.single_eq_same, Finset.sum_congr rfl fun d _ => owed_recv d hc, Finset.sum_ite_eq' Finset.univ (0 : Dev nD) fun _ => N,
    if_pos (Finset.mem_univ _)]

theorem credit_intro (c : Dev nD) : (Pipeline.launchCred owed c : sProp 𝕄) ⊢ credit c := by
  unfold Pipeline.launchCred credit
  by_cases hc : c = 0
  · subst hc
    rw [if_pos rfl, ← launch_bar]
    exact bigSep_elim (Finset.mem_univ (SemLoc.reg barS))
  · rw [if_neg hc, ← launch_recv hc]
    exact bigSep_elim (Finset.mem_univ (SemLoc.dma recvS))

/-! ## Entry and exit -/

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ ghost m ρ c)
      ⊢ |={Set.univ}=> iprop(start m ρ c ∗ emp) := by
  iintro ⟨-, Hlev, Hcr, -, HG⟩
  ihave Hc := (credit_intro (F := F) c) $$ Hcr
  imodintro
  unfold start
  isplitl
  · isplitl [HG]; · iexact HG
    isplitl [Hc] <;> iassumption
  · iempintro

theorem entry (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scr_eq]; iexact Hr

theorem exit (c : Dev nD) :
    (dats m ρ 0 c).Φ (Fin.last cfg0.N) ⊢ iprop(unscopedSems0 c ∗ Pipeline.ownSems0 ownOf c ∗ Pipeline.scopedRest cfg0.spec c) := by
  rw [show (dats m ρ 0 c).Φ (Fin.last cfg0.N) = Φ₁ c from rfl, scopedRest0_eq, ownSems_eq, barSem_eq]
  unfold Φ₁
  iintro ⟨⟨%f, Hr⟩, Hz0, Hz1, Hz2, Hz3, Hz4⟩
  isplitl [Hz0]; · iexact Hz0
  isplitl [Hz1 Hz2 Hz3 Hz4]
  · isplitl [Hz1]; · iexact Hz1
    isplitl [Hz2]; · iexact Hz2
    isplitl [Hz3] <;> iassumption
  iexists f; rw [← scr_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- On four devices, from any memory with zero counters, every weakly fair run ends; each device's arrays then hold what
    the staging pipeline wrote back, and every counter is zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := entry m ρ) (hout := exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_x (c : Dev nD) : finalA m ρ c (0 : Fin 6) = (s₀ m ρ).mem (win0_0.arr.view.loc (c : Thread nD τ)) := (dats (F := F) m ρ 0 c).arrAt_in (0 : Fin 6) rfl _
theorem final_wq (c : Dev nD) : finalA m ρ c (1 : Fin 6) = (s₀ m ρ).mem (win0_1.arr.view.loc (c : Thread nD τ)) := (dats (F := F) m ρ 0 c).arrAt_in (1 : Fin 6) rfl _
theorem final_k (c : Dev nD) : finalA m ρ c (2 : Fin 6) = (s₀ m ρ).mem (win0_2.arr.view.loc (c : Thread nD τ)) := (dats (F := F) m ρ 0 c).arrAt_in (2 : Fin 6) rfl _
theorem final_v (c : Dev nD) : finalA m ρ c (3 : Fin 6) = (s₀ m ρ).mem (win0_3.arr.view.loc (c : Thread nD τ)) := (dats (F := F) m ρ 0 c).arrAt_in (3 : Fin 6) rfl _
theorem final_wo (c : Dev nD) : finalA m ρ c (4 : Fin 6) = (s₀ m ρ).mem (win0_4.arr.view.loc (c : Thread nD τ)) := (dats (F := F) m ρ 0 c).arrAt_in (4 : Fin 6) rfl _

end Cert.Bcast

end
-- ==== Proof.Frames.lean ====
/-
# The frames: every run ends, leaves the arguments alone and every counter at zero
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Bcast

open Idealize.ShloMosaic Idealize.ShloMosaic.TcCoe Idealize.SL.Sem

section AnyFloats

open Cert.KernelIdeal

variable {F : FTy → Type} [FloatOps F] [Named F]

/-- Over any floats: a run ends with the five arguments as they were and every counter at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 0).trans (final_x m ρ c), (h.1 c 1).trans (final_wq m ρ c),
      (h.1 c 2).trans (final_k m ρ c), (h.1 c 3).trans (final_v m ρ c), (h.1 c 4).trans (final_wo m ρ c)⟩, h.2⟩)
    (run_main m ρ)

end AnyFloats

theorem frame_kernelIdeal : Cert.quiescent_KernelIdeal := fun m ρ _ => frame_any m ρ

/-! The kernel as printed is the idealized one read with the mask's constant as its bits: the two programs' parts are
the same terms, except that the tables of bodies have to be compared label by label. -/

/-- On machine floats a named constant is its bits. -/
local instance namedBits : Named Bits where
  named _ _ φ b := FloatOps.ofBits φ b

theorem main_eq : Cert.Kernel.main (F := Bits) = Cert.KernelIdeal.main (F := Bits) := rfl

theorem bodies_eq : Cert.Kernel.defs₀ (F := Bits) = Cert.KernelIdeal.defs₀ (F := Bits) := by
  unfold Cert.Kernel.defs₀ Cert.KernelIdeal.defs₀
  refine congrArg _ (funext fun l => ?_)
  match l with
  | 0 => rfl

theorem defs_eq : Cert.Kernel.defs (F := Bits) = Cert.KernelIdeal.defs (F := Bits) := by
  unfold Cert.Kernel.defs Cert.KernelIdeal.defs
  rw [bodies_eq]; rfl

theorem frame_kernel : Cert.quiescent_Kernel := fun m ρ _ => by
  have h := frame_any (F := Bits) m ρ
  rw [← main_eq] at h
  rw [← defs_eq] at h
  exact h

/-- The reference has no semaphore, so every counter of it stays at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The mask's −1e9 is the one constant the idealized kernel names: it reads −∞ there. -/
theorem preserves : Cert.preserves_Kernel_KernelIdeal :=
  IdealRules.named_const.statement Cert.KernelIdeal.κ "mask" .f32 0xCE6E6B28#32 ⊥ rfl

end Cert.Bcast

end
-- ==== Proof.Weights.lean ====
/-
# Softmax weights over keys of which the last ones are masked out
-/
module

public import Idealize.ShloMosaic.PureOps.Ideal
public import Idealize.ShloMosaic.PureOps.Ideal.Laws

@[expose] public section

noncomputable section

namespace Cert.Bcast

open Idealize.ShloMosaic

/-- The greatest of `n` scores. -/
def top {n : ℕ} (s : Fin n → EReal) : EReal := Finset.univ.fold max ⊥ s

/-- The weight of key `j` among `n` keys with scores `s`. -/
def weight {n : ℕ} (s : Fin n → EReal) (j : Fin n) : EReal :=
  Ideal.div (Ideal.exp (s j - top s)) (∑ l, Ideal.exp (s l - top s))

theorem top_eq_sup {n : ℕ} (s : Fin n → EReal) : top s = Finset.univ.sup s := rfl

section Cut

variable {n k : ℕ} (h : n ≤ k) (s : Fin k → EReal) (masked : ∀ j : Fin k, n ≤ j.val → s j = ⊥)
include masked

theorem top_cut : top s = top fun j : Fin n => s (j.castLE h) := by
  rw [top_eq_sup, top_eq_sup]
  apply le_antisymm
  · refine Finset.sup_le fun j _ => ?_
    by_cases hj : j.val < n
    · exact Finset.le_sup (f := fun j : Fin n => s (j.castLE h)) (Finset.mem_univ ⟨j.val, hj⟩)
    · rw [masked j (Nat.le_of_not_lt hj)]; exact bot_le
  · exact Finset.sup_le fun j _ => Finset.le_sup (Finset.mem_univ _)

/-- A masked key has weight zero before division: its score less anything is −∞. -/
theorem exp_masked (j : Fin k) (hj : n ≤ j.val) : Ideal.exp (s j - top s) = 0 := by
  rw [masked j hj, EReal.bot_sub]; rfl

theorem sum_cut {f : Fin k → EReal} (hf : ∀ j : Fin k, n ≤ j.val → f j = 0) : ∑ j, f j = ∑ j : Fin n, f (j.castLE h) := by
  obtain ⟨d, rfl⟩ := Nat.exists_eq_add_of_le h
  rw [Fin.sum_univ_add, Finset.sum_eq_zero (fun j _ => hf (Fin.natAdd n j) (Nat.le_add_right _ _)), add_zero]
  rfl

theorem total_cut : (∑ l, Ideal.exp (s l - top s)) = ∑ l : Fin n, Ideal.exp (s (l.castLE h) - top fun j : Fin n => s (j.castLE h)) := by
  rw [sum_cut h s masked (exp_masked s masked), top_cut h s masked]

theorem weight_cut (j : Fin n) : weight s (j.castLE h) = weight (fun j : Fin n => s (j.castLE h)) j := by
  unfold weight
  rw [total_cut h s masked, top_cut h s masked]

/-- A weighted sum over all the keys is the one over the keys that are not masked, if some key is not −∞. -/
theorem weighted_cut (v : Fin k → EReal) (pos : (∑ l, Ideal.exp (s l - top s)) ≠ 0) :
    ∑ j, weight s j * v j = ∑ j : Fin n, weight (fun j : Fin n => s (j.castLE h)) j * v (j.castLE h) := by
  rw [sum_cut h s masked (f := fun j => weight s j * v j)]
  · exact Finset.sum_congr rfl fun j _ => by rw [weight_cut h s masked]
  · intro j hj
    show weight s j * v j = 0
    unfold weight
    rw [exp_masked s masked j hj]
    unfold Ideal.div
    rw [if_neg pos, zero_mul, zero_mul]

end Cut

end Cert.Bcast

end
-- ==== Proof.Heads.lean ====
/-
# The kernel's arithmetic, head by head
-/
module

public import proofs.«01_k».proof.Proof.Body
public import proofs.«01_k».proof.Proof.Weights
public import Idealize.ShloMosaic.Lib.Pointwise

@[expose] public section

noncomputable section

namespace Cert.Bcast

open Cert.KernelIdeal Cert.KernelIdeal.Gen
open Idealize.ShloMosaic

section AnyFloats

variable {F : FTy → Type} [FloatOps F] [Named F]

/-- The masked scores of one head: queries times keys, times 1/8, plus the mask. -/
def scoresV (msk : FVec F S128x128 .f32) (q k : FVec F S128x64 .bf16) : FVec F S128x128 .f32 :=
  addf (mulf (matmul dot_S128x64_S128x64_S128x128_1_1_0_0_n_n none q k (constant S128x128 .f32 0x00000000#32))
    (broadcast S128x128 (Scalar.ofBits .f32 0x3E000000#32))) msk

/-- The exponentials of scores less their row's maximum. -/
def expV (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- Rows divided by their sums. -/
def normV (e : FVec F S128x128 .f32) : FVec F S128x128 .f32 :=
  divf e (broadcastTo S128x128 (shapeCast S128x1 (multiReduction .add [1] S128 e 0x00000000#32 reduces_S128x128_S128 (.inl rfl) rfl)
    shapeCasts_S128_S128x1) broadcasts_S128x1_S128x128)

/-- One head of the attention. -/
def headV (msk : FVec F S128x128 .f32) (q k v : FVec F S128x64 .bf16) : FVec F S128x64 .f32 :=
  matmul dot_S128x128_S128x64_S128x64_1_0_0_1_n_n none (truncf .bf16 (normV (expV (scoresV msk q k))) bitsLt_bf16_f32) v
    (constant S128x64 .f32 0x00000000#32)

/-- The four heads side by side, times the output matrix. -/
def blockV (msk : FVec F S128x128 .f32) (wo : FVec F S256x512 .bf16) (q : FVec F S128x256 .f32) (k v : FVec F S128x256 .bf16) : FVec F S128x512 .f32 :=
  matmul dot_S128x256_S256x512_S128x512_1_0_0_1_n_n none (truncf .bf16 (concatenate S128x256 1
    [⟨S128x64, headV msk (truncf .bf16 (extractStridedSlice S128x64 ![0, 0] q slices_S128x256_o0_0_S128x64) bitsLt_bf16_f32)
        (extractStridedSlice S128x64 ![0, 0] k slices_S128x256_o0_0_S128x64) (extractStridedSlice S128x64 ![0, 0] v slices_S128x256_o0_0_S128x64)⟩,
     ⟨S128x64, headV msk (truncf .bf16 (extractStridedSlice S128x64 ![0, 64] q slices_S128x256_o0_64_S128x64) bitsLt_bf16_f32)
        (extractStridedSlice S128x64 ![0, 64] k slices_S128x256_o0_64_S128x64) (extractStridedSlice S128x64 ![0, 64] v slices_S128x256_o0_64_S128x64)⟩,
     ⟨S128x64, headV msk (truncf .bf16 (extractStridedSlice S128x64 ![0, 128] q slices_S128x256_o0_128_S128x64) bitsLt_bf16_f32)
        (extractStridedSlice S128x64 ![0, 128] k slices_S128x256_o0_128_S128x64) (extractStridedSlice S128x64 ![0, 128] v slices_S128x256_o0_128_S128x64)⟩,
     ⟨S128x64, headV msk (truncf .bf16 (extractStridedSlice S128x64 ![0, 192] q slices_S128x256_o0_192_S128x64) bitsLt_bf16_f32)
        (extractStridedSlice S128x64 ![0, 192] k slices_S128x256_o0_192_S128x64) (extractStridedSlice S128x64 ![0, 192] v slices_S128x256_o0_192_S128x64)⟩]
    concatenates_S128x64_S128x64_S128x64_S128x64_S128x256_d1) bitsLt_bf16_f32) wo (constant S128x512 .f32 0x00000000#32)

theorem loOut_eq (x : Vec F S2x128x512 .bf16) (wq : Vec F S512x256 .bf16) (wo : Vec F S256x512 .bf16) (k v : Vec F S1x128x256 .bf16) :
    loOut x wq wo k v = blockV maskV (k0_pay8 wo) (k0_pay10 wq x) (k0_pay11 k) (k0_pay12 v) := rfl

theorem hiOut_eq (x : Vec F S2x128x512 .bf16) (wq : Vec F S512x256 .bf16) (wo : Vec F S256x512 .bf16) (k v : Vec F S1x128x256 .bf16) :
    hiOut x wq wo k v = blockV maskV (k0_pay8 wo) (k0_pay18 (k0_pay9 wq x)) (k0_pay19 k) (k0_pay20 v) := rfl

end AnyFloats

/-! ## Read at an index, on extended reals -/

/-- The bits of −∞ are −∞. -/
theorem bits_bot : Ideal.ofBits .f32 0xFF800000#32 = ⊥ := by
  simp [Ideal.ofBits, Ideal.ieee]

/-- The bits of 1/8, the scale of the scores. -/
def eighth : EReal := Ideal.ofBits .f32 0x3E000000#32

theorem headV_at (msk : FVec Ideal S128x128 .f32) (q k v : FVec Ideal S128x64 .bf16) (i : Fin 128) (d : Fin 64) :
    headV msk q k v (ix2 i d) = ∑ j : Fin 128,
      weight (fun j : Fin 128 => (∑ a : Fin 64, q (ix2 i a) * k (ix2 j a)) * eighth + msk (ix2 i j)) j * v (ix2 j d) := by
  pointwise [headV, normV, expV, scoresV]
  rw [bits_bot]; rfl

end Cert.Bcast

end
-- ==== Proof.Blocks.lean ====
/-
# One batch element's block of the result, read at an index
-/
module

public import proofs.«01_k».proof.Proof.Heads

@[expose] public section

noncomputable section

namespace Cert.Bcast

open Cert.KernelIdeal Cert.KernelIdeal.Gen
open Idealize.ShloMosaic

/-- Column `a` of the head that column `e` belongs to. -/
def headCol (e : Fin 256) (a : Fin 64) : Fin 256 := ⟨e.val / 64 * 64 + a.val, by omega⟩

theorem head_of (msk : FVec Ideal S128x128 .f32) (q : FVec Ideal S128x256 .f32) (k v : FVec Ideal S128x256 .bf16) (q' k' v' : FVec Ideal S128x64 .bf16)
    (i : Fin 128) (e : Fin 256) (d : Fin 64) (hq : ∀ a, q' (ix2 i a) = q (ix2 i (headCol e a)))
    (hk : ∀ j a, k' (ix2 j a) = k (ix2 j (headCol e a))) (hv : ∀ j, v' (ix2 j d) = v (ix2 j e)) :
    headV msk q' k' v' (ix2 i d) = ∑ j : Fin 128,
      weight (fun j : Fin 128 => (∑ a : Fin 64, q (ix2 i (headCol e a)) * k (ix2 j (headCol e a))) * eighth + msk (ix2 i j)) j * v (ix2 j e) := by
  rw [headV_at]; simp only [hq, hk, hv]

theorem blockV_at (msk : FVec Ideal S128x128 .f32) (wo : FVec Ideal S256x512 .bf16) (q : FVec Ideal S128x256 .f32) (k v : FVec Ideal S128x256 .bf16)
    (i : Fin 128) (n : Fin 512) :
    blockV msk wo q k v (ix2 i n) = ∑ e : Fin 256, (∑ j : Fin 128,
      weight (fun j : Fin 128 => (∑ a : Fin 64, q (ix2 i (headCol e a)) * k (ix2 j (headCol e a))) * eighth + msk (ix2 i j)) j * v (ix2 j e)) * wo (ix2 e n) := by
  pointwise [blockV]
  refine Finset.sum_congr rfl fun e _ => ?_
  congr 1
  split_ifs <;> apply head_of <;> intros <;> pointwise <;> (congr 2; apply Fin.ext; simp only [headCol]; omega)

/-- The quotient by 64 of a word, rounded down, as the kernel computes it. -/
def blockWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32) (IntOp.divsi ArithUnit.vector w 64#32)

theorem blockWord_eq : ∀ i : Fin 128, blockWord (BitVec.ofNat 32 i.val) = BitVec.ofNat 32 (i.val / 64) := by decide

theorem sle_blocks (a b : Fin 8) : IntOp.cmpi CmpIPredicate.sle (BitVec.ofNat 32 a.val) (BitVec.ofNat 32 b.val) = if a.val ≤ b.val then 1#1 else 0#1 := by
  revert a b; decide

theorem select_ite {α : Type} (P : Prop) [Decidable P] (x y : α) : Scalar.select (if P then 1#1 else 0#1) x y = if P then x else y := by
  by_cases h : P <;> simp [h, Scalar.select]

theorem maskV_at (i j : Fin 128) : (maskV : FVec Ideal S128x128 .f32) (ix2 i j) = if j.val / 64 ≤ i.val / 64 then 0 else ⊥ := by
  pointwise [maskV, k0_pay7, k0_pay4, k0_pay5, k0_pay6]
  show Scalar.select (IntOp.cmpi CmpIPredicate.sle (blockWord (BitVec.ofNat 32 j.val)) (blockWord (BitVec.ofNat 32 i.val))) (0 : EReal) ⊥ = _
  rw [blockWord_eq, blockWord_eq, sle_blocks ⟨j.val / 64, by omega⟩ ⟨i.val / 64, by omega⟩]
  exact select_ite _ _ _

/-! ## The operands of a block -/

theorem query_lo (x : Vec Ideal S2x128x512 .bf16) (wq : Vec Ideal S512x256 .bf16) (i : Fin 128) (c : Fin 256) :
    k0_pay10 wq x (ix2 i c) = ∑ l : Fin 512, x (ix3 (0 : Fin 2) i l) * wq (ix2 l c) := by
  pointwise [k0_pay10, k0_pay9]
  exact Finset.sum_congr rfl fun l _ => congrArg (· * _) (congrArg x (congrArg₂ (fun b r => ix3 b r l) (Fin.ext (Nat.div_eq_of_lt i.isLt)) (Fin.ext (Nat.mod_eq_of_lt i.isLt))))

theorem query_hi (x : Vec Ideal S2x128x512 .bf16) (wq : Vec Ideal S512x256 .bf16) (i : Fin 128) (c : Fin 256) :
    k0_pay18 (k0_pay9 wq x) (ix2 i c) = ∑ l : Fin 512, x (ix3 (1 : Fin 2) i l) * wq (ix2 l c) := by
  pointwise [k0_pay18, k0_pay9]
  exact Finset.sum_congr rfl fun l _ => congrArg (· * _) (congrArg x (congrArg (fun b => ix3 b i l) (Fin.ext (by show (128 + i.val) / 128 = 1; omega))))

/-- The element of the keys (or values) that row `r` and column `c` of its plane hold. -/
def unpack {α : Type} (k : S2x128x4x64.Idx → α) (r c : Fin 256) : α :=
  k (ix4 (⟨r.val / 128, by omega⟩ : Fin 2) (⟨r.val % 128, by omega⟩ : Fin 128) (⟨c.val / 64, by omega⟩ : Fin 4) (⟨c.val % 64, by omega⟩ : Fin 64))

theorem plane_keys (k : Vec Ideal S2x128x4x64 .bf16) (r c : Fin 256) : k0_pay2 k (ix3 (0 : Fin 1) r c) = unpack k r c := by
  unfold unpack; pointwise [k0_pay2]

theorem plane_vals (v : Vec Ideal S2x128x4x64 .bf16) (r c : Fin 256) : k0_pay3 v (ix3 (0 : Fin 1) r c) = unpack v r c := by
  unfold unpack; pointwise [k0_pay3]

theorem packed_keys (k v : Vec Ideal S2x128x4x64 .bf16) (r c : Fin 256) : packed k v (ix3 (0 : Fin 2) r c) = unpack k r c :=
  plane_keys k r c

theorem packed_vals (k v : Vec Ideal S2x128x4x64 .bf16) (r c : Fin 256) : packed k v (ix3 (1 : Fin 2) r c) = unpack v r c :=
  plane_vals v r c

/-- Row `r` of batch element `b`'s keys, in the plane. -/
def planeRow (b : Fin 2) (r : Fin 128) : Fin 256 := ⟨b.val * 128 + r.val, by omega⟩

theorem read_plane (f : (cc0_scratch0 : Ref sig .tc).ty.Contents (Elt Ideal)) (p b : Fin 2) {off : Fin 3 → ℕ} (hoff : off = ![p.val, b.val * 128, 0])
    (inb : ∀ a, off a + S1x128x256.size a ≤ S2x256x256.size a) (r : Fin 128) (c : Fin 256) :
    (kvM : Memref sig .tc .vmem S2x256x256 .bf16).view.readAt (Elt Ideal) (Rect.unit (s := S2x256x256) off S1x128x256.size inb).toLoadRect f (ix3 (0 : Fin 1) r c)
      = f (ix3 p (planeRow b r) c) := by
  subst hoff
  rw [View.readAt_apply]
  refine congrArg f (funext fun a => Fin.ext ?_)
  fin_cases a
  · show p.val + 1 * 0 = p.val; omega
  · show b.val * 128 + 1 * r.val = b.val * 128 + r.val; omega
  · show 0 + 1 * c.val = c.val; omega

variable (k v : Vec Ideal S2x128x4x64 .bf16) (r : Fin 128) (c : Fin 256)

theorem keysLo_at : k0_pay11 (keysLo (packed k v)) (ix2 r c) = unpack k (planeRow 0 r) c := by
  pointwise [k0_pay11]
  exact (read_plane _ 0 0 rfl _ r c).trans (packed_keys k v _ c)

theorem valsLo_at : k0_pay12 (valsLo (packed k v)) (ix2 r c) = unpack v (planeRow 0 r) c := by
  pointwise [k0_pay12]
  exact (read_plane _ 1 0 rfl _ r c).trans (packed_vals k v _ c)

theorem keysHi_at : k0_pay19 (keysHi (packed k v)) (ix2 r c) = unpack k (planeRow 1 r) c := by
  pointwise [k0_pay19]
  exact (read_plane _ 0 1 rfl _ r c).trans (packed_keys k v _ c)

theorem valsHi_at : k0_pay20 (valsHi (packed k v)) (ix2 r c) = unpack v (planeRow 1 r) c := by
  pointwise [k0_pay20]
  exact (read_plane _ 1 1 rfl _ r c).trans (packed_vals k v _ c)

end Cert.Bcast

end
-- ==== Proof.Value.lean ====
/-
# The kernel's result, read at an index
-/
module

public import proofs.«01_k».proof.Proof.Blocks
public import proofs.«01_k».proof.Proof.Run
public import Idealize.ShloMosaic.Lib.Pipeline.ValueKit

@[expose] public section

noncomputable section

namespace Cert.Bcast

open Cert.KernelIdeal Cert.KernelIdeal.Gen
open Idealize.ShloMosaic Idealize.ShloMosaic.TcCoe

/-! ## The attention, in plain sums -/

/-- Column `c` of the query of token `i` in batch element `b`. -/
def query (x : S2x128x512.Idx → EReal) (wq : S512x256.Idx → EReal) (b : Fin 2) (i : Fin 128) (c : Fin 256) : EReal :=
  ∑ l : Fin 512, x (ix3 b i l) * wq (ix2 l c)

/-- The score of token `i` against a key's vector `key`, in the head of column `e`. -/
def score (x : S2x128x512.Idx → EReal) (wq : S512x256.Idx → EReal) (b : Fin 2) (i : Fin 128) (e : Fin 256) (key : Fin 64 → EReal) : EReal :=
  (∑ a : Fin 64, query x wq b i (headCol e a) * key a) * eighth

/-- The score `s` of token `i` against key `j`: −∞ for a key in a later block of 64. -/
def masked (i j : ℕ) (s : EReal) : EReal := if j / 64 ≤ i / 64 then s else ⊥

/-- The head of column `e`. -/
def headOf (e : Fin 256) : Fin 4 := ⟨e.val / 64, by omega⟩
/-- Column `e` within its head. -/
def headLane (e : Fin 256) : Fin 64 := ⟨e.val % 64, by omega⟩

/-- Column `e` of the weighted values of token `i` in batch element `b`. -/
def context (x : S2x128x512.Idx → EReal) (wq : S512x256.Idx → EReal) (k v : S2x128x4x64.Idx → EReal) (b : Fin 2) (i : Fin 128) (e : Fin 256) : EReal :=
  ∑ j : Fin 128, weight (fun j : Fin 128 => masked i.val j.val (score x wq b i e fun a => k (ix4 b j (headOf e) a))) j * v (ix4 b j (headOf e) (headLane e))

/-- Row `b`, `i` and column `n` of the result. -/
def attention (x : S2x128x512.Idx → EReal) (wq : S512x256.Idx → EReal) (k v : S2x128x4x64.Idx → EReal) (wo : S256x512.Idx → EReal)
    (b : Fin 2) (i : Fin 128) (n : Fin 512) : EReal :=
  ∑ e : Fin 256, context x wq k v b i e * wo (ix2 e n)

/-! ## The kernel computes it -/

theorem add_mask (i j : ℕ) (s : EReal) : s + (if j / 64 ≤ i / 64 then 0 else ⊥) = masked i j s := by
  unfold masked; split_ifs
  · exact add_zero s
  · exact EReal.add_bot s

theorem headOf_headCol (e : Fin 256) (a : Fin 64) : headOf (headCol e a) = headOf e := by
  apply Fin.ext; simp only [headOf, headCol]; omega

theorem headLane_headCol (e : Fin 256) (a : Fin 64) : headLane (headCol e a) = a := by
  apply Fin.ext; simp only [headLane, headCol]; omega

theorem unpack_val {α : Type} (v : S2x128x4x64.Idx → α) (b : Fin 2) (j : Fin 128) (e : Fin 256) :
    unpack v (planeRow b j) e = v (ix4 b j (headOf e) (headLane e)) := by
  unfold unpack
  congr 2 <;> apply Fin.ext <;> simp only [planeRow] <;> omega

theorem block_value (x : Vec Ideal S2x128x512 .bf16) (wq : Vec Ideal S512x256 .bf16) (k v : Vec Ideal S2x128x4x64 .bf16) (wo : Vec Ideal S256x512 .bf16)
    (q : FVec Ideal S128x256 .f32) (kk vv : FVec Ideal S128x256 .bf16) (b : Fin 2) (hq : ∀ i c, q (ix2 i c) = query x wq b i c)
    (hk : ∀ j c, kk (ix2 j c) = unpack k (planeRow b j) c) (hv : ∀ j c, vv (ix2 j c) = unpack v (planeRow b j) c) (i : Fin 128) (n : Fin 512) :
    blockV maskV (k0_pay8 wo) q kk vv (ix2 i n) = attention x wq k v wo b i n := by
  have hwo : ∀ e, k0_pay8 wo (ix2 e n) = wo (ix2 e n) := fun e => by pointwise [k0_pay8]
  rw [blockV_at]
  simp only [hq, hk, hv, hwo, maskV_at, add_mask, unpack_val, headOf_headCol, headLane_headCol]
  rfl

variable (x : Vec Ideal S2x128x512 .bf16) (wq : Vec Ideal S512x256 .bf16) (k v : Vec Ideal S2x128x4x64 .bf16) (wo : Vec Ideal S256x512 .bf16)

theorem loOut_at (i : Fin 128) (n : Fin 512) :
    loOut x wq wo (keysLo (packed k v)) (valsLo (packed k v)) (ix2 i n) = attention x wq k v wo 0 i n := by
  rw [loOut_eq]
  exact block_value x wq k v wo _ _ _ 0 (query_lo x wq) (keysLo_at k v) (valsLo_at k v) i n

theorem hiOut_at (i : Fin 128) (n : Fin 512) :
    hiOut x wq wo (keysHi (packed k v)) (valsHi (packed k v)) (ix2 i n) = attention x wq k v wo 1 i n := by
  rw [hiOut_eq]
  exact block_value x wq k v wo _ _ _ 1 (query_hi x wq) (keysHi_at k v) (valsHi_at k v) i n

theorem stacked_at (b : Fin 2) (i : Fin 128) (n : Fin 512) (lo hi : Vec Ideal S128x512 .f32) (w : Fin 2 → Fin 128 → Fin 512 → EReal)
    (hlo : ∀ i n, lo (ix2 i n) = w 0 i n) (hhi : ∀ i n, hi (ix2 i n) = w 1 i n) : stacked lo hi (ix2 (planeRow b i) n) = w b i n := by
  unfold stacked
  rcases b with ⟨_ | _ | _, hb⟩
  · have h : (ix2 (planeRow ⟨0, hb⟩ i) n (0 : Fin 2)).val < 128 := by show 0 * 128 + i.val < 128; omega
    refine (dif_pos h).trans (Eq.trans ?_ (hlo i n))
    exact congrArg lo (congrArg (fun r => ix2 r n) (Fin.ext (by show 0 * 128 + i.val = i.val; omega)))
  · have h : ¬ (ix2 (planeRow ⟨1, hb⟩ i) n (0 : Fin 2)).val < 128 := by show ¬ 1 * 128 + i.val < 128; omega
    refine (dif_neg h).trans (Eq.trans ?_ (hhi i n))
    exact congrArg hi (congrArg (fun r => ix2 r n) (Fin.ext (by show 1 * 128 + i.val - 128 = i.val; omega)))
  · omega

/-! ## What the run leaves -/

variable (m : (ℓ : Loc nD τ sig) → Buf (Elt Ideal) ℓ) (ρ : Dev nD → PrngReg) (c : Dev nD)

theorem xAt_eq : xAt m ρ c = m ((c : Thread nD τ).loc main_arg0) := by
  unfold xAt
  funext y
  rw [View.read_apply]
  refine (cast_eq _ _).trans (congrArg _ (funext fun a => Fin.ext ?_))
  blk_simp
  rw [(by decide : ∀ a, win0_0.index (0 : Fin 1) a = 0) a, Nat.zero_mul, Nat.zero_add]

theorem wqAt_eq : wqAt m ρ c = m ((c : Thread nD τ).loc main_arg1) := by
  unfold wqAt
  funext y
  rw [View.read_apply]
  refine (cast_eq _ _).trans (congrArg _ (funext fun a => Fin.ext ?_))
  blk_simp
  rw [(by decide : ∀ a, win0_1.index (0 : Fin 1) a = 0) a, Nat.zero_mul, Nat.zero_add]

theorem kAt_eq : kAt m ρ c = m ((c : Thread nD τ).loc main_arg2) := by
  unfold kAt
  funext y
  rw [View.read_apply]
  refine (cast_eq _ _).trans (congrArg _ (funext fun a => Fin.ext ?_))
  blk_simp
  rw [(by decide : ∀ a, win0_2.index (0 : Fin 1) a = 0) a, Nat.zero_mul, Nat.zero_add]

theorem vAt_eq : vAt m ρ c = m ((c : Thread nD τ).loc main_arg3) := by
  unfold vAt
  funext y
  rw [View.read_apply]
  refine (cast_eq _ _).trans (congrArg _ (funext fun a => Fin.ext ?_))
  blk_simp
  rw [(by decide : ∀ a, win0_3.index (0 : Fin 1) a = 0) a, Nat.zero_mul, Nat.zero_add]

theorem woAt_eq : woAt m ρ c = m ((c : Thread nD τ).loc main_arg4) := by
  unfold woAt
  funext y
  rw [View.read_apply]
  refine (cast_eq _ _).trans (congrArg _ (funext fun a => Fin.ext ?_))
  blk_simp
  rw [(by decide : ∀ a, win0_4.index (0 : Fin 1) a = 0) a, Nat.zero_mul, Nat.zero_add]

theorem final_out : finalA m ρ c (5 : Fin 6) = outAt m ρ c := by
  unfold finalA
  refine (dats m ρ 0 c).arrAt_eq_of_after_last (5 : Fin 6) t0_0 (by decide +kernel) _ fun j => ?_
  blk_simp
  rfl

/-- Row `b`, `i` of what a device's result ends up holding: the attention of its queries over device 0's keys and values. -/
theorem out_at (b : Fin 2) (i : Fin 128) (n : Fin 512) :
    outAt m ρ c (ix2 (planeRow b i) n) = attention (m ((c : Thread nD τ).loc main_arg0)) (m ((c : Thread nD τ).loc main_arg1))
      (m (((0 : Dev nD) : Thread nD τ).loc main_arg2)) (m (((0 : Dev nD) : Thread nD τ).loc main_arg3)) (m ((c : Thread nD τ).loc main_arg4)) b i n := by
  unfold outAt KV
  rw [xAt_eq, wqAt_eq, kAt_eq, vAt_eq, woAt_eq]
  exact stacked_at b i n _ _ _ (loOut_at _ _ _ _ _) (hiOut_at _ _ _ _ _)

end Cert.Bcast

end
-- ==== Proof.Real.lean ====
/-
# Finite inputs have finite scores, and then the weights' denominators are not zero
-/
module

public import proofs.«01_k».proof.Proof.Value

@[expose] public section

noncomputable section

namespace Cert.Bcast

open Cert.KernelIdeal
open Idealize.ShloMosaic

/-- Neither −∞ nor +∞. -/
def IsReal (a : EReal) : Prop := ∃ r : ℝ, a = r

theorem IsReal.mul {a b : EReal} : IsReal a → IsReal b → IsReal (a * b) := by
  rintro ⟨r, rfl⟩ ⟨t, rfl⟩; exact ⟨r * t, (EReal.coe_mul r t).symm⟩

theorem IsReal.sum {n : ℕ} {f : Fin n → EReal} (h : ∀ j, IsReal (f j)) : IsReal (∑ j, f j) := by
  choose g hg using h
  exact ⟨∑ j, g j, by rw [Finset.sum_congr rfl fun j _ => hg j]; exact (map_sum (⟨⟨Real.toEReal, EReal.coe_zero⟩, EReal.coe_add⟩ : ℝ →+ EReal) g _).symm⟩

/-- A value whose magnitude compares below +∞ is real. -/
theorem isReal_of_abs_lt {a : EReal} (h : max a (-a) < ⊤) : IsReal a := by
  induction a with
  | bot => simp at h
  | coe r => exact ⟨r, rfl⟩
  | top => simp at h

theorem eighth_real : IsReal eighth := by
  unfold eighth
  exact ⟨_, by simp only [Ideal.ofBits, Ideal.ieee]; rw [if_neg (by decide), if_neg (by decide)]⟩

theorem score_real {x : S2x128x512.Idx → EReal} {wq : S512x256.Idx → EReal} (hx : ∀ y, IsReal (x y)) (hwq : ∀ y, IsReal (wq y)) {key : Fin 64 → EReal}
    (hkey : ∀ a, IsReal (key a)) (b : Fin 2) (i : Fin 128) (e : Fin 256) : IsReal (score x wq b i e key) :=
  (IsReal.sum fun a => (IsReal.sum fun _ => (hx _).mul (hwq _)).mul (hkey a)).mul eighth_real

/-- A key of the first block is seen by every query. -/
theorem masked_first (i : ℕ) (s : EReal) : masked i 0 s = s := if_pos (Nat.zero_le _)

/-- A query below 128 sees no key from 128 on. -/
theorem masked_late {i j : ℕ} (hi : i < 128) (hj : 128 ≤ j) (s : EReal) : masked i j s = ⊥ := if_neg (by omega)

theorem exp_nonneg (a : EReal) : 0 ≤ Ideal.exp a := by
  induction a with
  | bot => exact le_rfl
  | coe r => exact EReal.coe_nonneg.mpr (Real.exp_pos r).le
  | top => exact le_top

/-- Scores that are real or −∞, one of them real, have a sum of exponentials that is not zero: the greatest score is
    real, and contributes 1. -/
theorem total_ne_zero {n : ℕ} (s : Fin n → EReal) (noTop : ∀ j, s j ≠ ⊤) (j₀ : Fin n) (h₀ : s j₀ ≠ ⊥) : (∑ l, Ideal.exp (s l - top s)) ≠ 0 := by
  obtain ⟨j, -, hj⟩ := Finset.exists_mem_eq_sup Finset.univ ⟨j₀, Finset.mem_univ _⟩ s
  have hbot : s j ≠ ⊥ := fun h => h₀ (le_bot_iff.mp (h ▸ hj ▸ Finset.le_sup (Finset.mem_univ j₀)))
  have one : Ideal.exp (s j - top s) = 1 := by
    rw [top_eq_sup, hj]
    lift s j to ℝ using ⟨noTop j, hbot⟩ with r
    rw [← EReal.coe_sub, sub_self, Ideal.exp_coe, Real.exp_zero]; rfl
  have le : (1 : EReal) ≤ ∑ l, Ideal.exp (s l - top s) :=
    one ▸ Finset.single_le_sum (f := fun l => Ideal.exp (s l - top s)) (fun l _ => exp_nonneg _) (Finset.mem_univ j)
  exact fun h => absurd (h ▸ le) (by norm_num)

end Cert.Bcast

end
-- ==== Proof.Reference.lean ====
/-
# The reference's result, read at an index
-/
module

public import proofs.«01_k».proof.Proof.Value
public import proofs.«01_k».proof.Proof.Gen.ReferenceIdeal.Run
public import Idealize.ShloMosaic.Lib.Pointwise

@[expose] public section

noncomputable section

namespace Cert.Bcast

open Cert.ReferenceIdeal Cert.ReferenceIdeal.Gen
open Idealize.ShloMosaic Idealize.ShloMosaic.TcCoe

namespace Ref

/-! ## The reference in steps -/

/-- The block of 64 that each of the 512 keys is in. -/
def keyBlocks : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- The block of 64 that each of the 128 queries is in. -/
def queryBlocks : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- Which keys a query sees. -/
def allowed : IVec S128x512 1 :=
  cmpi .sle (broadcastInDim S128x512 ![0, 1] bcast_S1x512_S128x512_0_1 (broadcastInDim S1x512 ![1] bcast_S512_S1x512_1 keyBlocks))
    (broadcastInDim S128x512 ![0, 1] bcast_S128x1_S128x512_0_1 (broadcastInDim S128x1 ![0] bcast_S128_S128x1_0 queryBlocks))

/-- Whether a query sees any key. -/
def anyAllowed : IVec S128 1 := Host.reduce IntOp.ori allowed (constantI S_ 1 0#1) reducesTo_S128x512_S128_d1 h_S_

section AnyFloats

variable {F : FTy → Type} [FloatOps F]

/-- The scores, −∞ where the key is not seen. -/
def scores (x : FVec F S2x128x512 .bf16) (wq : FVec F S512x256 .bf16) (k : FVec F S2x512x4x64 .bf16) : FVec F S2x4x128x512 .f32 :=
  select (broadcastInDim S2x4x128x512 ![0, 1, 2, 3] bcast_S1x1x128x512_S2x4x128x512_0_1_2_3 (broadcastInDim S1x1x128x512 ![2, 3] bcast_S128x512_S1x1x128x512_2_3 allowed))
    (mulf (extf .f32 (truncf .bf16 (Host.dotGeneral dot_S2x128x4x64_S2x512x4x64_S2x4x128x512_3_3_1_1_02_02 none
        (shapeCast _ (truncf .bf16 (Host.dotGeneral dot_S2x128x512_S512x256_S2x128x256_2_0_01_1_n_n none x wq) bitsLt_bf16_f32) shapeCasts_S2x128x256_S2x128x4x64) k) bitsLt_bf16_f32) bitsLt_bf16_f32)
      (broadcastInDim S2x4x128x512 ![] bcast_S_S2x4x128x512 (constant S_ .f32 0x3E000000#32)))
    (broadcastInDim S2x4x128x512 ![] bcast_S_S2x4x128x512 (id (constant S_ .f32 0xFF800000#32)))

/-- The exponentials of scores less their row's maximum. -/
def exps (s : FVec F S2x4x128x512 .f32) : FVec F S2x4x128x512 .f32 :=
  Host.exp (subf s (broadcastInDim S2x4x128x512 ![0, 1, 2, 3] bcast_S2x4x128x1_S2x4x128x512_0_1_2_3 (broadcastInDim S2x4x128x1 ![0, 1, 2] bcast_S2x4x128_S2x4x128x1_0_1_2
    (Host.reduce FloatOps.maximumf s (constant S_ .f32 0xFF800000#32) reducesTo_S2x4x128x512_S2x4x128_d3 h_S_))))

/-- The weights: the exponentials divided by their row's sum. -/
def weights (e : FVec F S2x4x128x512 .f32) : FVec F S2x4x128x512 .f32 :=
  select (broadcastInDim S2x4x128x512 ![0, 1, 2, 3] bcast_S1x1x128x1_S2x4x128x512_0_1_2_3 (broadcastInDim S1x1x128x1 ![2] bcast_S128_S1x1x128x1_2 anyAllowed))
    (Host.divf e (broadcastInDim S2x4x128x512 ![0, 1, 2, 3] bcast_S2x4x128x1_S2x4x128x512_0_1_2_3
      (select (broadcastInDim S2x4x128x1 ![0, 1, 2, 3] bcast_S1x1x128x1_S2x4x128x1_0_1_2_3 (broadcastInDim S1x1x128x1 ![2] bcast_S128_S1x1x128x1_2 anyAllowed))
        (broadcastInDim S2x4x128x1 ![0, 1, 2] bcast_S2x4x128_S2x4x128x1_0_1_2 (Host.reduceAdd e (constant S_ .f32 0x00000000#32) reducesTo_S2x4x128x512_S2x4x128_d3 h_S_))
        (broadcastInDim S2x4x128x1 ![] bcast_S_S2x4x128x1 (id (constant S_ .f32 0x3F800000#32))))))
    (broadcastInDim S2x4x128x512 ![] bcast_S_S2x4x128x512 (id (constant S_ .f32 0x00000000#32)))

/-- The weighted values of all heads times the output matrix. -/
def project (p : FVec F S2x4x128x512 .f32) (v : FVec F S2x512x4x64 .bf16) (wo : FVec F S256x512 .bf16) : FVec F S256x512 .f32 :=
  shapeCast S256x512 (Host.dotGeneral dot_S2x128x256_S256x512_S2x128x512_2_0_01_1_n_n none
    (shapeCast S2x128x256 (transpose S2x128x4x64 [0, 3, 1, 2] (Host.dotGeneral dot_S2x512x4x64_S2x4x128x512_S2x4x64x128_1_3_3_2_02_01 none
      (extf .f32 v bitsLt_bf16_f32) p) transposes_S2x4x64x128_S2x128x4x64_0_3_1_2) shapeCasts_S2x128x4x64_S2x128x256)
    (extf .f32 wo bitsLt_bf16_f32)) shapeCasts_S2x128x512_S256x512

theorem res_eq (m : (ℓ : Loc nD τ sig) → Buf (Elt F) ℓ) (c : Dev nD) :
    Value.res_out0 m c = project (weights (exps (scores (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := by
  unfold Value.res_out0 Value.res_main_v39; rfl

end AnyFloats

/-! ## The mask -/

/-- The quotient by 64 of a word, rounded down, as the reference computes it. -/
def blockWord (w : BitVec 32) : BitVec 32 :=
  Scalar.select
    (IntOp.andi
      (IntOp.cmpi CmpIPredicate.ne (if w = 0 then 0#32 else if w.msb = true then -1 else 1) (if 64#32 = 0 then 0#32 else if (64#32).msb = true then -1 else 1))
      (IntOp.cmpi CmpIPredicate.ne (IntOp.remsi ArithUnit.host w 64#32) 0#32))
    (IntOp.subi (IntOp.divsi ArithUnit.host w 64#32) 1#32) (IntOp.divsi ArithUnit.host w 64#32)

theorem blockWord_eq : ∀ i : Fin 512, blockWord (BitVec.ofNat 32 i.val) = BitVec.ofNat 32 (i.val / 64) := by decide +kernel

theorem allowed_at (i : Fin 128) (j : Fin 512) : allowed (ix2 i j) = if j.val / 64 ≤ i.val / 64 then 1#1 else 0#1 := by
  pointwise [allowed, keyBlocks, queryBlocks]
  show IntOp.cmpi CmpIPredicate.sle (blockWord (BitVec.ofNat 32 j.val)) (blockWord (BitVec.ofNat 32 i.val)) = _
  rw [blockWord_eq j, blockWord_eq ⟨i.val, by omega⟩, sle_blocks ⟨j.val / 64, by omega⟩ ⟨i.val / 64, by omega⟩]

theorem or_one : ∀ w : BitVec 1, IntOp.ori 1#1 w = 1#1 := by decide

/-- Every query sees key 0. -/
theorem anyAllowed_at (i : Fin 128) : anyAllowed (ix1 i) = 1#1 := by
  pointwise [anyAllowed]
  rw [show (Finset.univ : Finset (Fin 512)) = insert 0 (Finset.univ.erase 0) from (Finset.insert_erase (Finset.mem_univ _)).symm,
    Finset.fold_insert (Finset.notMem_erase _ _), allowed_at, if_pos (by simp)]
  exact or_one _

/-! ## The floats -/

theorem scores_at (x : FVec Ideal S2x128x512 .bf16) (wq : FVec Ideal S512x256 .bf16) (k : FVec Ideal S2x512x4x64 .bf16) (b : Fin 2) (e : Fin 256) (i : Fin 128) (j : Fin 512) :
    scores x wq k (ix4 b (headOf e) i j) = masked i.val j.val (score x wq b i e fun a => k (ix4 b j (headOf e) a)) := by
  pointwise [scores]
  rw [allowed_at, select_ite]
  exact congrArg (fun z => if j.val / 64 ≤ i.val / 64 then _ else z) bits_bot

theorem exps_at (s : FVec Ideal S2x4x128x512 .f32) (b : Fin 2) (h : Fin 4) (i : Fin 128) (j : Fin 512) :
    exps s (ix4 b h i j) = Ideal.exp (s (ix4 b h i j) - top fun j => s (ix4 b h i j)) := by
  pointwise [exps]
  rw [bits_bot]; rfl

theorem weights_at (s : FVec Ideal S2x4x128x512 .f32) (b : Fin 2) (h : Fin 4) (i : Fin 128) (j : Fin 512) :
    weights (exps s) (ix4 b h i j) = weight (fun j => s (ix4 b h i j)) j := by
  pointwise [weights]
  rw [anyAllowed_at]
  simp only [exps_at]
  rfl

theorem project_at (p : FVec Ideal S2x4x128x512 .f32) (v : FVec Ideal S2x512x4x64 .bf16) (wo : FVec Ideal S256x512 .bf16) (b : Fin 2) (i : Fin 128) (n : Fin 512) :
    project p v wo (ix2 (planeRow b i) n) = ∑ e : Fin 256, (∑ j : Fin 512, p (ix4 b (headOf e) i j) * v (ix4 b j (headOf e) (headLane e))) * wo (ix2 e n) := by
  pointwise [project]
  have hb : (⟨(planeRow b i).val / 128, by omega⟩ : Fin 2) = b := Fin.ext (by simp only [planeRow]; omega)
  have hi : (⟨(planeRow b i).val % 128, by omega⟩ : Fin 128) = i := Fin.ext (by simp only [planeRow]; omega)
  exact Finset.sum_congr rfl fun e _ => congrArg (· * _) (Finset.sum_congr rfl fun j _ => (mul_comm _ _).trans
    (congrArg₂ (· * ·) (congrArg p (congrArg₂ (fun b i => ix4 b (headOf e) i j) hb hi)) (congrArg v (congrArg (fun b => ix4 b j (headOf e) (headLane e)) hb))))

end Ref

end Cert.Bcast

end
-- ==== Proof.Algebraic.lean ====
/-
# Kernel and reference compute the same result
-/
module

public import proofs.«01_k».proof.Defs
public import proofs.«01_k».proof.Proof.Real
public import proofs.«01_k».proof.Proof.Reference
public import proofs.«01_k».proof.Proof.Frames

@[expose] public section

noncomputable section

namespace Cert.Bcast

open Idealize.ShloMosaic Idealize.ShloMosaic.TcCoe Idealize.SL.Sem
open Cert.KernelIdeal (S2x128x512 S512x256 S2x128x4x64 S256x512)
open Cert.ReferenceIdeal (S2x512x4x64)

/-! ## The precondition -/

instance preFacts : Cert.Pre_finite_scores_KernelIdeal.Facts := ⟨by decide, by decide, by decide⟩
instance preFactsRef : Cert.Pre_finite_scores_ReferenceIdeal.Facts := ⟨by decide, by decide, by decide⟩

theorem bits_top : Ideal.ofBits .bf16 0x7F80#16 = ⊤ := by
  simp [Ideal.ofBits, Ideal.ieee]

theorem real_of_compare {a : EReal} (h : Ideal.cmp .olt (max a (-a)) (Ideal.ofBits .bf16 0x7F80#16) = 1#1) : IsReal a := by
  refine isReal_of_abs_lt ?_
  rw [bits_top] at h
  by_contra hn
  simp [Ideal.cmp, hn] at h

theorem pre_real {x : FVec Ideal S2x128x512 .bf16} {wq : FVec Ideal S512x256 .bf16} {k v : FVec Ideal S2x128x4x64 .bf16} {wo : FVec Ideal S256x512 .bf16}
    (h : (Cert.Pre_finite_scores_KernelIdeal.fn (F := Ideal) x wq k v wo).1 = (fun _ => 1#1)
      ∧ (Cert.Pre_finite_scores_KernelIdeal.fn (F := Ideal) x wq k v wo).2.1 = (fun _ => 1#1)
      ∧ (Cert.Pre_finite_scores_KernelIdeal.fn (F := Ideal) x wq k v wo).2.2 = (fun _ => 1#1)) :
    (∀ y, IsReal (x y)) ∧ (∀ y, IsReal (wq y)) ∧ ∀ y, IsReal (k y) :=
  ⟨fun y => real_of_compare (congrFun h.1 y), fun y => real_of_compare (congrFun h.2.1 y), fun y => real_of_compare (congrFun h.2.2 y)⟩

/-! ## The two sums -/

theorem block_key {α : Type} (K : S2x512x4x64.Idx → α) (b : Fin 2) (j : Fin 128) (h : Fin 4) (a : Fin 64) :
    Layout.block (⟨4, ![2, 128, 4, 64]⟩ : Shape) ⟨4, ![2, 512, 4, 64]⟩ 1 4 0 K (by decide) (ix4 b j h a) = K (ix4 b (j.castLE (by decide : 128 ≤ 512)) h a) := by
  rw [Layout.block_apply]
  refine congrArg K (funext fun d => Fin.ext ?_)
  rw [Layout.Tiles.idx_val]
  fin_cases d
  · rfl
  · show 0 * 128 + j.val = j.val; omega
  · rfl
  · rfl

/-- Over finite inputs the reference's 512 keys weigh as the first 128: the others are masked. -/
theorem context_eq (x : S2x128x512.Idx → EReal) (wq : S512x256.Idx → EReal) (K V : S2x512x4x64.Idx → EReal) (k v : S2x128x4x64.Idx → EReal)
    (hk : k = Layout.block (⟨4, ![2, 128, 4, 64]⟩ : Shape) ⟨4, ![2, 512, 4, 64]⟩ 1 4 0 K (by decide))
    (hv : v = Layout.block (⟨4, ![2, 128, 4, 64]⟩ : Shape) ⟨4, ![2, 512, 4, 64]⟩ 1 4 0 V (by decide))
    (rx : ∀ y, IsReal (x y)) (rwq : ∀ y, IsReal (wq y)) (rk : ∀ y, IsReal (k y)) (b : Fin 2) (i : Fin 128) (e : Fin 256) :
    (∑ j : Fin 512, weight (fun j : Fin 512 => masked i.val j.val (score x wq b i e fun a => K (ix4 b j (headOf e) a))) j * V (ix4 b j (headOf e) (headLane e)))
      = context x wq k v b i e := by
  have first : ∀ j : Fin 128, IsReal (score x wq b i e fun a => K (ix4 b (j.castLE (by decide : 128 ≤ 512)) (headOf e) a)) := fun j =>
    score_real rx rwq (fun a => by rw [← block_key K, ← hk]; exact rk _) b i e
  have late : ∀ j : Fin 512, 128 ≤ j.val → masked i.val j.val (score x wq b i e fun a => K (ix4 b j (headOf e) a)) = ⊥ :=
    fun j hj => masked_late i.isLt hj _
  have noTop : ∀ j : Fin 512, masked i.val j.val (score x wq b i e fun a => K (ix4 b j (headOf e) a)) ≠ ⊤ := fun j => by
    by_cases hj : j.val < 128
    · obtain ⟨r, hr⟩ := first ⟨j.val, hj⟩
      unfold masked
      split_ifs
      · exact fun h => EReal.coe_ne_top r (hr.symm.trans h)
      · exact bot_ne_top
    · rw [late j (Nat.le_of_not_lt hj)]; exact bot_ne_top
  have some : masked i.val (0 : Fin 512).val (score x wq b i e fun a => K (ix4 b (0 : Fin 512) (headOf e) a)) ≠ ⊥ := by
    obtain ⟨r, hr⟩ := first 0
    exact fun h => EReal.coe_ne_bot r (hr.symm.trans ((masked_first i.val _).symm.trans h))
  rw [weighted_cut (by decide : 128 ≤ 512) _ late _ (total_ne_zero _ noTop 0 some)]
  unfold context
  rw [hk, hv]
  simp only [block_key]
  rfl

theorem attention_congr {x : S2x128x512.Idx → EReal} {wq : S512x256.Idx → EReal} {k v : S2x128x4x64.Idx → EReal} {wo : S256x512.Idx → EReal} {b : Fin 2} {i : Fin 128}
    {n : Fin 512} {f : Fin 256 → EReal} (h : ∀ e, context x wq k v b i e = f e) : attention x wq k v wo b i n = ∑ e : Fin 256, f e * wo (ix2 e n) :=
  Finset.sum_congr rfl fun e _ => congrArg (· * _) (h e)

/-- Every row of the result is one of the two batch elements'. -/
theorem rows {α : Type} {f g : S256x512.Idx → α} (h : ∀ b i n, f (ix2 (planeRow b i) n) = g (ix2 (planeRow b i) n)) : f = g := by
  funext y
  have e : y = ix2 (planeRow ⟨(y 0).val / 128, by have := (y 0).isLt; change _ < 256 at this; omega⟩ ⟨(y 0).val % 128, by omega⟩) (y 1) := by
    funext a
    fin_cases a
    · exact Fin.ext (by show (y 0).val = (y 0).val / 128 * 128 + (y 0).val % 128; omega)
    · rfl
  rw [e]; exact h _ _ _

/-! ## The claim -/

theorem algebraic : Cert.algebraic_KernelIdeal_ReferenceIdeal_pre_finite_scores_KernelIdeal := by
  intro m g m' g' pre args
  have value : ∀ c : Dev Cert.KernelIdeal.nD, outAt m g c = Cert.ReferenceIdeal.Value.res_out0 m' 0 := by
    intro c
    refine rows fun b i n => ?_
    rw [out_at, Ref.res_eq]
    refine Eq.trans ?_ (Ref.project_at _ _ _ b i n).symm
    simp only [Ref.weights_at, Ref.scores_at]
    obtain ⟨hx, hwq, -, -, hwo⟩ := args c
    obtain ⟨-, -, hk, hv, -⟩ := args 0
    obtain ⟨rx, rwq, -⟩ := pre_real (pre c)
    obtain ⟨-, -, rk⟩ := pre_real (pre 0)
    rw [← hx, ← hwq, ← hwo]
    exact attention_congr fun e => (context_eq _ _ _ _ _ _ hk hv rx rwq rk b i e).symm
  refine ⟨Cert.ReferenceIdeal.Value.res_out0 m' 0, ?_, ?_⟩
  · exact (θ_run _ _ _).mono (fun r h c => ⟨((h.1 c 5).trans (final_out m g c)).trans (value c), (h.1 c 0).trans (final_x m g c), (h.1 c 1).trans (final_wq m g c),
      (h.1 c 2).trans (final_k m g c), (h.1 c 3).trans (final_v m g c), (h.1 c 4).trans (final_wo m g c)⟩) (run_main m g)
  · exact (θ_run _ _ _).mono (fun r h => h 0) (Cert.ReferenceIdeal.Value.run m' g')

end Cert.Bcast

end
-- ==== Proof.lean ====
/-
# The claims, put together
-/
module

public import proofs.«01_k».proof.Defs
public import proofs.«01_k».proof.Proof.Frames
public import proofs.«01_k».proof.Proof.Algebraic

@[expose] public section

noncomputable section

namespace Cert.Proof

open Cert.Bcast

theorem claim : Cert.Claim := ⟨Cert.Kernel.Gen.facts, Cert.KernelIdeal.Gen.facts, Cert.ReferenceIdeal.Gen.facts, preFacts, preFactsRef,
  frame_kernel, frame_kernelIdeal, fun m ρ _ => frame_kernelIdeal m ρ trivial, frame_reference, fun m ρ _ => frame_reference m ρ trivial,
  preserves, algebraic⟩

end Cert.Proof

end
